-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S2x256x512 : Shape := ⟨3, ![2, 256, 512]⟩
abbrev S15x256x512 : Shape := ⟨3, ![15, 256, 512]⟩
abbrev S2 : Shape := ⟨1, ![2]⟩
abbrev S15 : Shape := ⟨1, ![15]⟩
abbrev S_ : Shape := ⟨0, ![]⟩
abbrev S256x256 : Shape := ⟨2, ![256, 256]⟩
abbrev S256x512 : Shape := ⟨2, ![256, 512]⟩
abbrev S1x256x512 : Shape := ⟨3, ![1, 256, 512]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S256x2048, .f32⟩
  | .local _ .vmem, ⟨0, _⟩ => ⟨S4096x256, .bf16⟩
  | .local _ .vmem, ⟨1, _⟩ => ⟨S256x2048, .bf16⟩
  | .local _ .vmem, ⟨2, _⟩ => ⟨S256x2048, .f32⟩
  | .local _ .vmem, ⟨3, _⟩ => ⟨S2x256x512, .bf16⟩
  | .local _ .vmem, ⟨4, _⟩ => ⟨S2x256x512, .bf16⟩
  | .local _ .vmem, ⟨5, _⟩ => ⟨S2x256x512, .bf16⟩
  | .local _ .vmem, ⟨6, _⟩ => ⟨S2x256x512, .bf16⟩
  | .local _ .vmem, ⟨7, _⟩ => ⟨S15x256x512, .bf16⟩
  | .local _ .vmem, ⟨8, _⟩ => ⟨S15x256x512, .bf16⟩
  | .local _ .vmem, ⟨9, _⟩ => ⟨S15x256x512, .bf16⟩
  | .local _ .vmem, ⟨10, _⟩ => ⟨S15x256x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_82 : BitVec 32 := 1#32
  let v96 : BitVec 32 := Scalar.muli v62 c1_i32_82
  let v97 : BitVec 32 := Scalar.addi c0_i32_83 v96
  v97.toNat
def k0_off1 (d0 : Dev nD) (c8_i32_115 : BitVec 32) (c12_i32_113 : BitVec 32) (c15_i32_111 : BitVec 32) (c11_i32_109 : BitVec 32) (c7_i32_107 : BitVec 32) (c3_i32_105 : BitVec 32) (c2_i32_103 : BitVec 32) (c6_i32_101 : BitVec 32) (c10_i32_99 : BitVec 32) (c14_i32_97 : BitVec 32) (c13_i32_95 : BitVec 32) (c9_i32_93 : BitVec 32) (c5_i32_91 : BitVec 32) (c1_i32_89 : BitVec 32) (c0_i32_86 : BitVec 32) (c4_i32_87 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c15_i32_114 : BitVec 32 := 15#32
  let v126 : BitVec 1 := Scalar.cmpi .eq v32 c15_i32_114
  let c14_i32_112 : BitVec 32 := 14#32
  let v124 : BitVec 1 := Scalar.cmpi .eq v32 c14_i32_112
  let c13_i32_110 : BitVec 32 := 13#32
  let v122 : BitVec 1 := Scalar.cmpi .eq v32 c13_i32_110
  let c12_i32_108 : BitVec 32 := 12#32
  let v120 : BitVec 1 := Scalar.cmpi .eq v32 c12_i32_108
  let c11_i32_106 : BitVec 32 := 11#32
  let v118 : BitVec 1 := Scalar.cmpi .eq v32 c11_i32_106
  let c10_i32_104 : BitVec 32 := 10#32
  let v116 : BitVec 1 := Scalar.cmpi .eq v32 c10_i32_104
  let c9_i32_102 : BitVec 32 := 9#32
  let v114 : BitVec 1 := Scalar.cmpi .eq v32 c9_i32_102
  let c8_i32_100 : BitVec 32 := 8#32
  let v112 : BitVec 1 := Scalar.cmpi .eq v32 c8_i32_100
  let c7_i32_98 : BitVec 32 := 7#32
  let v110 : BitVec 1 := Scalar.cmpi .eq v32 c7_i32_98
  let c6_i32_96 : BitVec 32 := 6#32
  let v108 : BitVec 1 := Scalar.cmpi .eq v32 c6_i32_96
  let c5_i32_94 : BitVec 32 := 5#32
  let v106 : BitVec 1 := Scalar.cmpi .eq v32 c5_i32_94
  let c4_i32_92 : BitVec 32 := 4#32
  let v104 : BitVec 1 := Scalar.cmpi .eq v32 c4_i32_92
  let c3_i32_90 : BitVec 32 := 3#32
  let v102 : BitVec 1 := Scalar.cmpi .eq v32 c3_i32_90
  let c2_i32_88 : BitVec 32 := 2#32
  let v100 : BitVec 1 := Scalar.cmpi .eq v32 c2_i32_88
  let c1_i32_85 : BitVec 32 := 1#32
  let v98 : BitVec 1 := Scalar.cmpi .eq v32 c1_i32_85
  let v99 : BitVec 32 := Scalar.select v98 c0_i32_86 c4_i32_87
  let v101 : BitVec 32 := Scalar.select v100 c1_i32_89 v99
  let v103 : BitVec 32 := Scalar.select v102 c5_i32_91 v101
  let v105 : BitVec 32 := Scalar.select v104 c9_i32_93 v103
  let v107 : BitVec 32 := Scalar.select v106 c13_i32_95 v105
  let v109 : BitVec 32 := Scalar.select v108 c14_i32_97 v107
  let v111 : BitVec 32 := Scalar.select v110 c10_i32_99 v109
  let v113 : BitVec 32 := Scalar.select v112 c6_i32_101 v111
  let v115 : BitVec 32 := Scalar.select v114 c2_i32_103 v113
  let v117 : BitVec 32 := Scalar.select v116 c3_i32_105 v115
  let v119 : BitVec 32 := Scalar.select v118 c7_i32_107 v117
  let v121 : BitVec 32 := Scalar.select v120 c11_i32_109 v119
  let v123 : BitVec 32 := Scalar.select v122 c15_i32_111 v121
  let v125 : BitVec 32 := Scalar.select v124 c12_i32_113 v123
  let v127 : BitVec 32 := Scalar.select v126 c8_i32_115 v125
  let c256_i32 : BitVec 32 := 256#32
  let v158 : BitVec 32 := Scalar.muli v127 c256_i32
  let v159 : Index := Scalar.indexCast v158
  let c0 : Index := 0#32
  ![v159.toNat, 0]
def k0_off1_at (r : Fin 15) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 7 then
    if r.val < 3 then
      if r.val < 1 then
        (8#32, 12#32, 15#32, 11#32, 7#32, 3#32, 2#32, 6#32, 10#32, 14#32, 13#32, 9#32, 5#32, 1#32, 0#32, 4#32)
      else
        if r.val < 2 then
          (0#32, 4#32, 8#32, 12#32, 15#32, 11#32, 7#32, 3#32, 2#32, 6#32, 10#32, 14#32, 13#32, 9#32, 5#32, 1#32)
        else
          (12#32, 15#32, 11#32, 7#32, 3#32, 2#32, 6#32, 10#32, 14#32, 13#32, 9#32, 5#32, 1#32, 0#32, 4#32, 8#32)
    else
      if r.val < 5 then
        if r.val < 4 then
          (1#32, 0#32, 4#32, 8#32, 12#32, 15#32, 11#32, 7#32, 3#32, 2#32, 6#32, 10#32, 14#32, 13#32, 9#32, 5#32)
        else
          (15#32, 11#32, 7#32, 3#32, 2#32, 6#32, 10#32, 14#32, 13#32, 9#32, 5#32, 1#32, 0#32, 4#32, 8#32, 12#32)
      else
        if r.val < 6 then
          (5#32, 1#32, 0#32, 4#32, 8#32, 12#32, 15#32, 11#32, 7#32, 3#32, 2#32, 6#32, 10#32, 14#32, 13#32, 9#32)
        else
          (11#32, 7#32, 3#32, 2#32, 6#32, 10#32, 14#32, 13#32, 9#32, 5#32, 1#32, 0#32, 4#32, 8#32, 12#32, 15#32)
  else
    if r.val < 11 then
      if r.val < 9 then
        if r.val < 8 then
          (9#32, 5#32, 1#32, 0#32, 4#32, 8#32, 12#32, 15#32, 11#32, 7#32, 3#32, 2#32, 6#32, 10#32, 14#32, 13#32)
        else
          (7#32, 3#32, 2#32, 6#32, 10#32, 14#32, 13#32, 9#32, 5#32, 1#32, 0#32, 4#32, 8#32, 12#32, 15#32, 11#32)
      else
        if r.val < 10 then
          (13#32, 9#32, 5#32, 1#32, 0#32, 4#32, 8#32, 12#32, 15#32, 11#32, 7#32, 3#32, 2#32, 6#32, 10#32, 14#32)
        else
          (3#32, 2#32, 6#32, 10#32, 14#32, 13#32, 9#32, 5#32, 1#32, 0#32, 4#32, 8#32, 12#32, 15#32, 11#32, 7#32)
    else
      if r.val < 13 then
        if r.val < 12 then
          (14#32, 13#32, 9#32, 5#32, 1#32, 0#32, 4#32, 8#32, 12#32, 15#32, 11#32, 7#32, 3#32, 2#32, 6#32, 10#32)
        else
          (2#32, 6#32, 10#32, 14#32, 13#32, 9#32, 5#32, 1#32, 0#32, 4#32, 8#32, 12#32, 15#32, 11#32, 7#32, 3#32)
      else
        if r.val < 14 then
          (10#32, 14#32, 13#32, 9#32, 5#32, 1#32, 0#32, 4#32, 8#32, 12#32, 15#32, 11#32, 7#32, 3#32, 2#32, 6#32)
        else
          (6#32, 10#32, 14#32, 13#32, 9#32, 5#32, 1#32, 0#32, 4#32, 8#32, 12#32, 15#32, 11#32, 7#32, 3#32, 2#32)
def k0_dev3 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_156 : BitVec 32 := 1#32
  let v169 : BitVec 32 := Scalar.muli v62 c1_i32_156
  let v170 : BitVec 32 := Scalar.addi c0_i32_157 v169
  v170.toNat
def k0_dev4 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_173 : BitVec 32 := 1#32
  let v190 : BitVec 32 := Scalar.muli v92 c1_i32_173
  let v191 : BitVec 32 := Scalar.addi c0_i32_174 v190
  v191.toNat
def k0_dev5 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_190 : BitVec 32 := 1#32
  let v211 : BitVec 32 := Scalar.muli v62 c1_i32_190
  let v212 : BitVec 32 := Scalar.addi c0_i32_191 v211
  v212.toNat
def k0_dev6 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_207 : BitVec 32 := 1#32
  let v232 : BitVec 32 := Scalar.muli v92 c1_i32_207
  let v233 : BitVec 32 := Scalar.addi c0_i32_208 v232
  v233.toNat
def k0_dev7 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_299 : BitVec 32 := 1#32
  let v325 : BitVec 32 := Scalar.muli v62 c1_i32_299
  let v326 : BitVec 32 := Scalar.addi c0_i32_300 v325
  v326.toNat
def k0_dev8 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_330 : BitVec 32 := 1#32
  let v358 : BitVec 32 := Scalar.muli v92 c1_i32_330
  let v359 : BitVec 32 := Scalar.addi c0_i32_331 v358
  v359.toNat
def k0_dev9 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_361 : BitVec 32 := 1#32
  let v391 : BitVec 32 := Scalar.muli v62 c1_i32_361
  let v392 : BitVec 32 := Scalar.addi c0_i32_362 v391
  v392.toNat
def k0_dev10 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_392 : BitVec 32 := 1#32
  let v424 : BitVec 32 := Scalar.muli v92 c1_i32_392
  let v425 : BitVec 32 := Scalar.addi c0_i32_393 v424
  v425.toNat
def k0_dev11 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_494 : BitVec 32 := 1#32
  let v523 : BitVec 32 := Scalar.muli v62 c1_i32_494
  let v524 : BitVec 32 := Scalar.addi c0_i32_495 v523
  v524.toNat
def k0_dev12 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_534 : BitVec 32 := 1#32
  let v562 : BitVec 32 := Scalar.muli v92 c1_i32_534
  let v563 : BitVec 32 := Scalar.addi c0_i32_535 v562
  v563.toNat
def k0_dev13 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_574 : BitVec 32 := 1#32
  let v601 : BitVec 32 := Scalar.muli v62 c1_i32_574
  let v602 : BitVec 32 := Scalar.addi c0_i32_575 v601
  v602.toNat
def k0_dev14 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_614 : BitVec 32 := 1#32
  let v640 : BitVec 32 := Scalar.muli v92 c1_i32_614
  let v641 : BitVec 32 := Scalar.addi c0_i32_615 v640
  v641.toNat
def k0_dev15 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_715 : BitVec 32 := 1#32
  let v739 : BitVec 32 := Scalar.muli v62 c1_i32_715
  let v740 : BitVec 32 := Scalar.addi c0_i32_716 v739
  v740.toNat
def k0_dev16 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_755 : BitVec 32 := 1#32
  let v778 : BitVec 32 := Scalar.muli v92 c1_i32_755
  let v779 : BitVec 32 := Scalar.addi c0_i32_756 v778
  v779.toNat
def k0_dev17 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_795 : BitVec 32 := 1#32
  let v817 : BitVec 32 := Scalar.muli v62 c1_i32_795
  let v818 : BitVec 32 := Scalar.addi c0_i32_796 v817
  v818.toNat
def k0_dev18 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_835 : BitVec 32 := 1#32
  let v856 : BitVec 32 := Scalar.muli v92 c1_i32_835
  let v857 : BitVec 32 := Scalar.addi c0_i32_836 v856
  v857.toNat
def k0_dev19 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_936 : BitVec 32 := 1#32
  let v955 : BitVec 32 := Scalar.muli v62 c1_i32_936
  let v956 : BitVec 32 := Scalar.addi c0_i32_937 v955
  v956.toNat
def k0_dev20 (d0 : Dev nD) : Nat :=
  let c0_i32_977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_976 : BitVec 32 := 1#32
  let v994 : BitVec 32 := Scalar.muli v92 c1_i32_976
  let v995 : BitVec 32 := Scalar.addi c0_i32_977 v994
  v995.toNat
def k0_dev21 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1016 : BitVec 32 := 1#32
  let v1033 : BitVec 32 := Scalar.muli v62 c1_i32_1016
  let v1034 : BitVec 32 := Scalar.addi c0_i32_1017 v1033
  v1034.toNat
def k0_dev22 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1056 : BitVec 32 := 1#32
  let v1072 : BitVec 32 := Scalar.muli v92 c1_i32_1056
  let v1073 : BitVec 32 := Scalar.addi c0_i32_1057 v1072
  v1073.toNat
def k0_dev23 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1157 : BitVec 32 := 1#32
  let v1171 : BitVec 32 := Scalar.muli v62 c1_i32_1157
  let v1172 : BitVec 32 := Scalar.addi c0_i32_1158 v1171
  v1172.toNat
def k0_dev24 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1197 : BitVec 32 := 1#32
  let v1210 : BitVec 32 := Scalar.muli v92 c1_i32_1197
  let v1211 : BitVec 32 := Scalar.addi c0_i32_1198 v1210
  v1211.toNat
def k0_dev25 (d0 : Dev nD) : Nat :=
  let c0_i32_1238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1237 : BitVec 32 := 1#32
  let v1249 : BitVec 32 := Scalar.muli v62 c1_i32_1237
  let v1250 : BitVec 32 := Scalar.addi c0_i32_1238 v1249
  v1250.toNat
def k0_dev26 (d0 : Dev nD) : Nat :=
  let c0_i32_1278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1277 : BitVec 32 := 1#32
  let v1288 : BitVec 32 := Scalar.muli v92 c1_i32_1277
  let v1289 : BitVec 32 := Scalar.addi c0_i32_1278 v1288
  v1289.toNat
def k0_dev27 (d0 : Dev nD) : Nat :=
  let c0_i32_1379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1378 : BitVec 32 := 1#32
  let v1387 : BitVec 32 := Scalar.muli v62 c1_i32_1378
  let v1388 : BitVec 32 := Scalar.addi c0_i32_1379 v1387
  v1388.toNat
def k0_dev28 (d0 : Dev nD) : Nat :=
  let c0_i32_1419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1418 : BitVec 32 := 1#32
  let v1426 : BitVec 32 := Scalar.muli v92 c1_i32_1418
  let v1427 : BitVec 32 := Scalar.addi c0_i32_1419 v1426
  v1427.toNat
def k0_dev29 (d0 : Dev nD) : Nat :=
  let c0_i32_1459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1458 : BitVec 32 := 1#32
  let v1465 : BitVec 32 := Scalar.muli v62 c1_i32_1458
  let v1466 : BitVec 32 := Scalar.addi c0_i32_1459 v1465
  v1466.toNat
def k0_dev30 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1498 : BitVec 32 := 1#32
  let v1504 : BitVec 32 := Scalar.muli v92 c1_i32_1498
  let v1505 : BitVec 32 := Scalar.addi c0_i32_1499 v1504
  v1505.toNat
def k0_dev31 (d0 : Dev nD) : Nat :=
  let c0_i32_1600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1599 : BitVec 32 := 1#32
  let v1603 : BitVec 32 := Scalar.muli v62 c1_i32_1599
  let v1604 : BitVec 32 := Scalar.addi c0_i32_1600 v1603
  v1604.toNat
def k0_dev32 (d0 : Dev nD) : Nat :=
  let c0_i32_1640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1639 : BitVec 32 := 1#32
  let v1642 : BitVec 32 := Scalar.muli v92 c1_i32_1639
  let v1643 : BitVec 32 := Scalar.addi c0_i32_1640 v1642
  v1643.toNat
def k0_dev33 (d0 : Dev nD) : Nat :=
  let c0_i32_1680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1679 : BitVec 32 := 1#32
  let v1681 : BitVec 32 := Scalar.muli v62 c1_i32_1679
  let v1682 : BitVec 32 := Scalar.addi c0_i32_1680 v1681
  v1682.toNat
def k0_dev34 (d0 : Dev nD) : Nat :=
  let c0_i32_1720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1719 : BitVec 32 := 1#32
  let v1720 : BitVec 32 := Scalar.muli v92 c1_i32_1719
  let v1721 : BitVec 32 := Scalar.addi c0_i32_1720 v1720
  v1721.toNat
def k0_dev35 (d0 : Dev nD) : Nat :=
  let c0_i32_1821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1820 : BitVec 32 := 1#32
  let v1819 : BitVec 32 := Scalar.muli v62 c1_i32_1820
  let v1820 : BitVec 32 := Scalar.addi c0_i32_1821 v1819
  v1820.toNat
def k0_dev36 (d0 : Dev nD) : Nat :=
  let c0_i32_1861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1860 : BitVec 32 := 1#32
  let v1858 : BitVec 32 := Scalar.muli v92 c1_i32_1860
  let v1859 : BitVec 32 := Scalar.addi c0_i32_1861 v1858
  v1859.toNat
def k0_dev37 (d0 : Dev nD) : Nat :=
  let c0_i32_1901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1900 : BitVec 32 := 1#32
  let v1897 : BitVec 32 := Scalar.muli v62 c1_i32_1900
  let v1898 : BitVec 32 := Scalar.addi c0_i32_1901 v1897
  v1898.toNat
def k0_dev38 (d0 : Dev nD) : Nat :=
  let c0_i32_1941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1940 : BitVec 32 := 1#32
  let v1936 : BitVec 32 := Scalar.muli v92 c1_i32_1940
  let v1937 : BitVec 32 := Scalar.addi c0_i32_1941 v1936
  v1937.toNat
def k0_dev39 (d0 : Dev nD) : Nat :=
  let c0_i32_2042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2041 : BitVec 32 := 1#32
  let v2035 : BitVec 32 := Scalar.muli v62 c1_i32_2041
  let v2036 : BitVec 32 := Scalar.addi c0_i32_2042 v2035
  v2036.toNat
def k0_dev40 (d0 : Dev nD) : Nat :=
  let c0_i32_2082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2081 : BitVec 32 := 1#32
  let v2074 : BitVec 32 := Scalar.muli v92 c1_i32_2081
  let v2075 : BitVec 32 := Scalar.addi c0_i32_2082 v2074
  v2075.toNat
def k0_dev41 (d0 : Dev nD) : Nat :=
  let c0_i32_2122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2121 : BitVec 32 := 1#32
  let v2113 : BitVec 32 := Scalar.muli v62 c1_i32_2121
  let v2114 : BitVec 32 := Scalar.addi c0_i32_2122 v2113
  v2114.toNat
def k0_dev42 (d0 : Dev nD) : Nat :=
  let c0_i32_2162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2161 : BitVec 32 := 1#32
  let v2152 : BitVec 32 := Scalar.muli v92 c1_i32_2161
  let v2153 : BitVec 32 := Scalar.addi c0_i32_2162 v2152
  v2153.toNat
def k0_dev43 (d0 : Dev nD) : Nat :=
  let c0_i32_2263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2262 : BitVec 32 := 1#32
  let v2251 : BitVec 32 := Scalar.muli v62 c1_i32_2262
  let v2252 : BitVec 32 := Scalar.addi c0_i32_2263 v2251
  v2252.toNat
def k0_dev44 (d0 : Dev nD) : Nat :=
  let c0_i32_2303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2302 : BitVec 32 := 1#32
  let v2290 : BitVec 32 := Scalar.muli v92 c1_i32_2302
  let v2291 : BitVec 32 := Scalar.addi c0_i32_2303 v2290
  v2291.toNat
def k0_dev45 (d0 : Dev nD) : Nat :=
  let c0_i32_2343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2342 : BitVec 32 := 1#32
  let v2329 : BitVec 32 := Scalar.muli v62 c1_i32_2342
  let v2330 : BitVec 32 := Scalar.addi c0_i32_2343 v2329
  v2330.toNat
def k0_dev46 (d0 : Dev nD) : Nat :=
  let c0_i32_2383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2382 : BitVec 32 := 1#32
  let v2368 : BitVec 32 := Scalar.muli v92 c1_i32_2382
  let v2369 : BitVec 32 := Scalar.addi c0_i32_2383 v2368
  v2369.toNat
def k0_dev47 (d0 : Dev nD) : Nat :=
  let c0_i32_2484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2483 : BitVec 32 := 1#32
  let v2467 : BitVec 32 := Scalar.muli v62 c1_i32_2483
  let v2468 : BitVec 32 := Scalar.addi c0_i32_2484 v2467
  v2468.toNat
def k0_dev48 (d0 : Dev nD) : Nat :=
  let c0_i32_2524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2523 : BitVec 32 := 1#32
  let v2506 : BitVec 32 := Scalar.muli v92 c1_i32_2523
  let v2507 : BitVec 32 := Scalar.addi c0_i32_2524 v2506
  v2507.toNat
def k0_dev49 (d0 : Dev nD) : Nat :=
  let c0_i32_2564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2563 : BitVec 32 := 1#32
  let v2545 : BitVec 32 := Scalar.muli v62 c1_i32_2563
  let v2546 : BitVec 32 := Scalar.addi c0_i32_2564 v2545
  v2546.toNat
def k0_dev50 (d0 : Dev nD) : Nat :=
  let c0_i32_2604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2603 : BitVec 32 := 1#32
  let v2584 : BitVec 32 := Scalar.muli v92 c1_i32_2603
  let v2585 : BitVec 32 := Scalar.addi c0_i32_2604 v2584
  v2585.toNat
def k0_dev51 (d0 : Dev nD) : Nat :=
  let c0_i32_2705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2704 : BitVec 32 := 1#32
  let v2683 : BitVec 32 := Scalar.muli v62 c1_i32_2704
  let v2684 : BitVec 32 := Scalar.addi c0_i32_2705 v2683
  v2684.toNat
def k0_dev52 (d0 : Dev nD) : Nat :=
  let c0_i32_2745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2744 : BitVec 32 := 1#32
  let v2722 : BitVec 32 := Scalar.muli v92 c1_i32_2744
  let v2723 : BitVec 32 := Scalar.addi c0_i32_2745 v2722
  v2723.toNat
def k0_dev53 (d0 : Dev nD) : Nat :=
  let c0_i32_2785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2784 : BitVec 32 := 1#32
  let v2761 : BitVec 32 := Scalar.muli v62 c1_i32_2784
  let v2762 : BitVec 32 := Scalar.addi c0_i32_2785 v2761
  v2762.toNat
def k0_dev54 (d0 : Dev nD) : Nat :=
  let c0_i32_2825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2824 : BitVec 32 := 1#32
  let v2800 : BitVec 32 := Scalar.muli v92 c1_i32_2824
  let v2801 : BitVec 32 := Scalar.addi c0_i32_2825 v2800
  v2801.toNat
def k0_dev55 (d0 : Dev nD) : Nat :=
  let c0_i32_2926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2925 : BitVec 32 := 1#32
  let v2899 : BitVec 32 := Scalar.muli v62 c1_i32_2925
  let v2900 : BitVec 32 := Scalar.addi c0_i32_2926 v2899
  v2900.toNat
def k0_dev56 (d0 : Dev nD) : Nat :=
  let c0_i32_2966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2965 : BitVec 32 := 1#32
  let v2938 : BitVec 32 := Scalar.muli v92 c1_i32_2965
  let v2939 : BitVec 32 := Scalar.addi c0_i32_2966 v2938
  v2939.toNat
def k0_dev57 (d0 : Dev nD) : Nat :=
  let c0_i32_3006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3005 : BitVec 32 := 1#32
  let v2977 : BitVec 32 := Scalar.muli v62 c1_i32_3005
  let v2978 : BitVec 32 := Scalar.addi c0_i32_3006 v2977
  v2978.toNat
def k0_dev58 (d0 : Dev nD) : Nat :=
  let c0_i32_3046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3045 : BitVec 32 := 1#32
  let v3016 : BitVec 32 := Scalar.muli v92 c1_i32_3045
  let v3017 : BitVec 32 := Scalar.addi c0_i32_3046 v3016
  v3017.toNat
def k0_dev59 (d0 : Dev nD) : Nat :=
  let c0_i32_3147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3146 : BitVec 32 := 1#32
  let v3115 : BitVec 32 := Scalar.muli v62 c1_i32_3146
  let v3116 : BitVec 32 := Scalar.addi c0_i32_3147 v3115
  v3116.toNat
def k0_dev60 (d0 : Dev nD) : Nat :=
  let c0_i32_3187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3186 : BitVec 32 := 1#32
  let v3154 : BitVec 32 := Scalar.muli v92 c1_i32_3186
  let v3155 : BitVec 32 := Scalar.addi c0_i32_3187 v3154
  v3155.toNat
def k0_dev61 (d0 : Dev nD) : Nat :=
  let c0_i32_3227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3226 : BitVec 32 := 1#32
  let v3193 : BitVec 32 := Scalar.muli v62 c1_i32_3226
  let v3194 : BitVec 32 := Scalar.addi c0_i32_3227 v3193
  v3194.toNat
def k0_dev62 (d0 : Dev nD) : Nat :=
  let c0_i32_3267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3266 : BitVec 32 := 1#32
  let v3232 : BitVec 32 := Scalar.muli v92 c1_i32_3266
  let v3233 : BitVec 32 := Scalar.addi c0_i32_3267 v3232
  v3233.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3272 : BitVec 32 := 256#32
  let v3242 : BitVec 32 := Scalar.muli v2 c256_i32_3272
  let v3243 : Index := Scalar.indexCast v3242
  let c0_3273 : Index := 0#32
  ![v3243.toNat, 0]
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.ProgIdeal.lean ====
/-
# The kernel's body as sixty turns of one program

The printed body is one straight line of operations, cut into parts by count alone. Here it is written again as the
handshake, then sixty turns (`turn`, one per step of the ring and lane), then the four lanes' last sums (`finish`) and
the waits for the copies still under way (`settle`); `body_eq` says that the two are the same program.

A LANE is a quarter of the columns with its own buffers, semaphores and direction around the ring; lanes are numbered in
the order in which the kernel's loop meets them: columns 0, 1024, 512 and 1536 on, going right, left, right, left.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

set_option maxRecDepth 100000

noncomputable section

namespace Cert.KernelIdeal.Ring

open Cert.KernelIdeal Cert.KernelIdeal.Gen

open Idealize.ShloMosaic
open Idealize.ShloMosaic.TcCoe
open Idealize.SL.Sem

variable {F : FTy → Type} [FloatOps F]

/-! ## The memrefs and semaphores of a lane -/

abbrev xM : Memref sig .tc .vmem S4096x256 .bf16 := Memref.whole cc0_stg0_0
abbrev wM : Memref sig .tc .vmem S256x2048 .bf16 := Memref.whole cc0_stg1_0
abbrev oM : Memref sig .tc .vmem S256x2048 .f32 := Memref.whole cc0_stg2_0

/-- A lane's two send slots. -/
def sendM : Fin 4 → Memref sig .tc .vmem S2x256x512 .bf16
  | 0 => Memref.whole cc0_scratch0 | 1 => Memref.whole cc0_scratch2 | 2 => Memref.whole cc0_scratch1 | 3 => Memref.whole cc0_scratch3
/-- A lane's fifteen landing slots. -/
def recvM : Fin 4 → Memref sig .tc .vmem S15x256x512 .bf16
  | 0 => Memref.whole cc0_scratch4 | 1 => Memref.whole cc0_scratch6 | 2 => Memref.whole cc0_scratch5 | 3 => Memref.whole cc0_scratch7
/-- A lane's two send semaphores. -/
def sendSems : Fin 4 → DmaSems sig S2
  | 0 => cc0_scratch8 | 1 => cc0_scratch10 | 2 => cc0_scratch9 | 3 => cc0_scratch11
/-- A lane's fifteen landing semaphores. -/
def recvSems : Fin 4 → DmaSems sig S15
  | 0 => cc0_scratch12 | 1 => cc0_scratch14 | 2 => cc0_scratch13 | 3 => cc0_scratch15

theorem sendM_whole : ∀ l, (sendM l).IsWhole
  | 0 => Memref.isWhole_whole _ | 1 => Memref.isWhole_whole _ | 2 => Memref.isWhole_whole _ | 3 => Memref.isWhole_whole _
theorem recvM_whole : ∀ l, (recvM l).IsWhole
  | 0 => Memref.isWhole_whole _ | 1 => Memref.isWhole_whole _ | 2 => Memref.isWhole_whole _ | 3 => Memref.isWhole_whole _

/-- The first column of a lane. -/
def col : Fin 4 → ℕ
  | 0 => 0 | 1 => 1024 | 2 => 512 | 3 => 1536
/-- Whether a lane goes to the right around the ring. -/
def goesRight : Fin 4 → Bool
  | 0 => true | 1 => false | 2 => true | 3 => false

theorem col_inb : ∀ (l : Fin 4) (a), (![0, col l] : Fin 2 → Nat) a + S256x512.size a ≤ S256x2048.size a := by decide
theorem send_inb : ∀ (s : Fin 2) (a), (![s.val, 0, 0] : Fin 3 → Nat) a + S1x256x512.size a ≤ S2x256x512.size a := by decide
theorem recv_inb : ∀ (t : Fin 15) (a), (![t.val, 0, 0] : Fin 3 → Nat) a + S1x256x512.size a ≤ S15x256x512.size a := by decide
theorem sendSem_inb : ∀ (s : Fin 2) (a), (![s.val] : Fin 1 → Nat) a + S1.size a ≤ S2.size a := by decide
theorem recvSem_inb : ∀ (t : Fin 15) (a), (![t.val] : Fin 1 → Nat) a + S1.size a ≤ S15.size a := by decide

/-- A lane's columns, of the weights and of the result. -/
abbrev colRect (l : Fin 4) : Rect S256x2048 := Rect.unit (s := S256x2048) ![0, col l] S256x512.size (col_inb l)
abbrev sendRect (s : Fin 2) : Rect S2x256x512 := Rect.unit (s := S2x256x512) ![s.val, 0, 0] S1x256x512.size (send_inb s)
abbrev recvRect (t : Fin 15) : Rect S15x256x512 := Rect.unit (s := S15x256x512) ![t.val, 0, 0] S1x256x512.size (recv_inb t)

theorem send_words : ∀ s : Fin 2, (sendRect s).WholeWords (EltTy.packing .bf16) := by decide
theorem send_packed : ∀ s : Fin 2, (sendRect s).PackedRows (EltTy.packing .bf16) := by decide
theorem recv_words : ∀ t : Fin 15, (recvRect t).WholeWords (EltTy.packing .bf16) := by decide

/-- The slot a copy leaves from, and the slot it lands in. -/
abbrev sendV (l : Fin 4) (s : Fin 2) : Memref sig .tc .vmem S256x512 .bf16 :=
  ((sendM l).slice (sendRect s) (fun _ => rfl)).squeeze S256x512 squeezes_S1x256x512_S256x512
abbrev recvV (l : Fin 4) (t : Fin 15) : Memref sig .tc .vmem S256x512 .bf16 :=
  ((recvM l).slice (recvRect t) (fun _ => rfl)).squeeze S256x512 squeezes_S1x256x512_S256x512
abbrev sendS (l : Fin 4) (s : Fin 2) : DmaSem sig :=
  (((sendSems l).slice (Rect.unit (s := S2) ![s.val] S1.size (sendSem_inb s))).squeeze S_ squeezes_S1_S_).sem
abbrev recvS (l : Fin 4) (t : Fin 15) : DmaSem sig :=
  (((recvSems l).slice (Rect.unit (s := S15) ![t.val] S1.size (recvSem_inb t))).squeeze S_ squeezes_S1_S_).sem

theorem sendV_exact (l : Fin 4) (s : Fin 2) : (sendV l s).view.WordExact :=
  ((sendM_whole l).wordExact_slice rfl _ (send_words s)).reshape _ _
theorem recvV_exact (l : Fin 4) (t : Fin 15) : (recvV l t).view.WordExact :=
  ((recvM_whole l).wordExact_slice rfl _ (recv_words t)).reshape _ _

/-- The barrier semaphore. -/
abbrev barS : Sem sig := (SemArray.scalar (sig.barrier 0 rfl) : Sems sig S_).sem

/-! ## The arithmetic -/

/-- A block of rows times a lane's columns, in binary32. -/
def gemm (x : Vec F S256x256 .bf16) (w : Vec F S256x512 .bf16) : FVec F S256x512 .f32 :=
  matmul dot_S256x256_S256x512_S256x512_1_0_0_1_n_n none (shapeCast S256x256 x shapeCasts_S256x256_S256x256 : FVec F S256x256 .bf16)
    (shapeCast S256x512 w shapeCasts_S256x512_S256x512 : FVec F S256x512 .bf16) (constant S256x512 .f32 0x00000000#32)
/-- Plus a partial sum that has landed. -/
def plus (a : FVec F S256x512 .f32) (r : Vec F S1x256x512 .bf16) : FVec F S256x512 .f32 :=
  addf a (extf .f32 (shapeCast S256x512 r shapeCasts_S1x256x512_S256x512 : FVec F S256x512 .bf16) bitsLt_bf16_f32)
/-- A sum as it is sent on: rounded to bfloat16. -/
def pack (a : FVec F S256x512 .f32) : FVec F S1x256x512 .bf16 :=
  shapeCast S1x256x512 (truncf .bf16 a bitsLt_bf16_f32) shapeCasts_S256x512_S1x256x512
/-- A sum as it is returned: its positive part. -/
def relu (a : FVec F S256x512 .f32) : FVec F S256x512 .f32 :=
  maximumf a (broadcast S256x512 (Scalar.ofBits .f32 0x00000000#32 : F .f32))

/-! ## The turns -/

/-- Which row of the table of offsets lane `l` reads at step `t`. -/
def offRow (l : Fin 4) (t : Fin 15) : Fin 15 :=
  if goesRight l then ⟨if t.val ≤ 6 then 2 * t.val else if t.val = 7 then 14 else 2 * (14 - t.val) + 1, by (repeat' split) <;> omega⟩
  else ⟨if t.val ≤ 6 then 2 * t.val + 1 else if t.val = 7 then 14 else 2 * (14 - t.val), by (repeat' split) <;> omega⟩

/-- The offset of the rows device `d` multiplies at a row of that table. -/
abbrev xOff (d : Dev nD) (r : Fin 15) : Fin 2 → ℕ :=
  k0_off1 d (k0_off1_at r).1 (k0_off1_at r).2.1 (k0_off1_at r).2.2.1 (k0_off1_at r).2.2.2.1 (k0_off1_at r).2.2.2.2.1
    (k0_off1_at r).2.2.2.2.2.1 (k0_off1_at r).2.2.2.2.2.2.1 (k0_off1_at r).2.2.2.2.2.2.2.1 (k0_off1_at r).2.2.2.2.2.2.2.2.1
    (k0_off1_at r).2.2.2.2.2.2.2.2.2.1 (k0_off1_at r).2.2.2.2.2.2.2.2.2.2.1 (k0_off1_at r).2.2.2.2.2.2.2.2.2.2.2.1
    (k0_off1_at r).2.2.2.2.2.2.2.2.2.2.2.2.1 (k0_off1_at r).2.2.2.2.2.2.2.2.2.2.2.2.2.1
    (k0_off1_at r).2.2.2.2.2.2.2.2.2.2.2.2.2.2.1 (k0_off1_at r).2.2.2.2.2.2.2.2.2.2.2.2.2.2.2

/-- The device a lane copies to. -/
def tgt (l : Fin 4) (d : Dev nD) : Dev nD :=
  if goesRight l then ⟨k0_dev3 d, k0_dev3_lt d⟩ else ⟨k0_dev4 d, k0_dev4_lt d⟩

abbrev KProg (α : Type) : Type 1 := Prog (TpuEff nD τ sig (Elt F) Λ₀ .tc) α

def loadX (off : Fin 2 → ℕ) (h : ∀ a, off a + S256x256.size a ≤ S4096x256.size a) : KProg (F := F) (Vec F S256x256 .bf16) :=
  Prog.lift (.load xM (Rect.unit (s := S4096x256) off S256x256.size h).toLoadRect (View.loadsAt_vmem h_S256x256))
def loadW (l : Fin 4) : KProg (F := F) (Vec F S256x512 .bf16) :=
  Prog.lift (.load wM (colRect l).toLoadRect (View.loadsAt_vmem h_S256x512))
def waitRecv (l : Fin 4) (t : Fin 15) (s : Fin 2) : KProg (F := F) PUnit :=
  Prog.lift (.waitDma2 (recvS l t) (sendV l s) (recvV l t) (sendV_exact l s) (recvV_exact l t))
def waitSend (l : Fin 4) (t : Fin 15) (s : Fin 2) : KProg (F := F) PUnit :=
  Prog.lift (.waitDma2 (sendS l s) (recvV l t) (sendV l s) (recvV_exact l t) (sendV_exact l s))
def loadRecv (l : Fin 4) (t : Fin 15) : KProg (F := F) (Vec F S1x256x512 .bf16) :=
  Prog.lift (.load (recvM l) (recvRect t).toLoadRect (View.loadsAt_vmem h_S1x256x512))
def loadSend (l : Fin 4) (s : Fin 2) : KProg (F := F) (Vec F S1x256x512 .bf16) :=
  Prog.lift (.load (sendM l) (sendRect s).toLoadRect (View.loadsAt_vmem h_S1x256x512))
def storeSend (l : Fin 4) (s : Fin 2) (v : FVec F S1x256x512 .bf16) : KProg (F := F) PUnit :=
  Prog.lift (.store (sendM l) (sendRect s) v Finset.univ
    (View.stores_vmem h_S1x256x512 ((sendM_whole l).storeExact_slice rfl _ (send_packed s)) (fun _ => rfl)) (.inl rfl))
def copyTo (l : Fin 4) (t : Fin 15) (s : Fin 2) (n : Dev nD) : KProg (F := F) PUnit :=
  Prog.lift (.enqueueDma (sendV l s) (.remote (Dev.tc n) (recvV l t) (.dma (sendS l s))) (.dma (recvS l t))
    (sendV_exact l s) (recvV_exact l t) ⟨⟨rfl, Or.inl rfl⟩, trivial⟩)

/-- The slot of a step. -/
abbrev slot (t : ℕ) : Fin 2 := ⟨t % 2, Nat.mod_lt _ (by decide)⟩

/-- From the second step on, what landed at the step before is waited for and added. -/
def gather (l : Fin 4) (a : FVec F S256x512 .f32) : (t : ℕ) → t < 15 → KProg (F := F) (FVec F S256x512 .f32)
  | 0, _ => pure a
  | t + 1, h => do
    waitRecv l ⟨t, Nat.lt_of_succ_lt h⟩ (slot t)
    let r ← loadRecv l ⟨t, Nat.lt_of_succ_lt h⟩
    pure (plus a r)
/-- From the third step on, the slot's last copy is waited for before it is written again. -/
def drain (l : Fin 4) : (t : ℕ) → t < 15 → KProg (F := F) PUnit
  | 0, _ => pure ⟨⟩
  | 1, _ => pure ⟨⟩
  | t + 2, h => waitSend l ⟨t, by omega⟩ (slot t)

/-- Lane `l`'s step `t` on device `d`. -/
def turn (d : Dev nD) (t : Fin 15) (l : Fin 4) : KProg (F := F) PUnit := do
  let x ← loadX (xOff d (offRow l t)) (k0_off1_inb d (offRow l t))
  let w ← loadW l
  let a ← gather l (gemm x w) t.val t.isLt
  drain l t.val t.isLt
  let _ ← loadSend l (slot t)
  storeSend l (slot t) (pack a)
  copyTo l t (slot t) (tgt l d)

/-- Lane `l`'s last sum, which stays. -/
def finish (d : Dev nD) (l : Fin 4) : KProg (F := F) PUnit := do
  let x ← loadX (k0_off2 d) (k0_off2_inb d)
  let w ← loadW l
  waitRecv l 14 0
  let r ← loadRecv l 14
  let _ ← (Prog.lift (.load oM (colRect l).toLoadRect (View.loadsAt_vmem h_S256x512)) : KProg (F := F) (Vec F S256x512 .f32))
  Prog.lift (.store oM (colRect l) (relu (plus (gemm x w) r)) Finset.univ (View.stores_vmem_bits_univ h_S256x512 rfl) (.inl rfl))

/-- The waits for lane `l`'s last two copies. -/
def settle (l : Fin 4) : KProg (F := F) PUnit := do
  waitSend l 13 1
  waitSend l 14 0

/-- A list of programs run in order. -/
def seq : List (KProg (F := F) PUnit) → KProg (F := F) PUnit
  | [] => pure ⟨⟩
  | p :: ps => do p; seq ps

/-- The sixty turns in order. -/
def turns (d : Dev nD) : List (KProg (F := F) PUnit) :=
  (List.finRange 15).flatMap fun t => (List.finRange 4).map fun l => turn d t l

/-- The whole body. -/
def body : KProg (F := F) PUnit := do
  let d ← (Prog.lift .deviceId : KProg (F := F) (Dev nD))
  semSignalWord (⟨k0_dev1 d, k0_dev1_lt d⟩ : Dev nD) barS 1#32
  semSignalWord (⟨k0_dev2 d, k0_dev2_lt d⟩ : Dev nD) barS 1#32
  semWaitWord barS 2#32
  seq (turns d ++ ((List.finRange 4).map (finish d) ++ (List.finRange 4).map settle))

/-- The printed body, on the buffers it is launched with, is this program. -/
theorem body_eq : bodyAt0 (F := F) (⟨0, by decide⟩ : Fin cfg0.N) = body := by
  chain_rfl

end Cert.KernelIdeal.Ring

end
-- ==== Proof.SchedIdeal.lean ====
/-
# The protocol of the ring

Each device's cells are its barrier cell, two send cells per lane and fifteen landing cells per lane. What each round
of a cell hands to the cell's owner, what each device owes at launch, and the order of the waits.

* A device's barrier cell takes one unit from each neighbour. The unit of the neighbour a lane goes TO hands over that
  neighbour's fifteen landing slots of the lane.
* The landing cell of lane `l` and step `t` takes one copy, whose landing hands its owner the slot holding the partial
  sum `part l t` of the neighbour the lane comes FROM.
* A send cell takes one copy per round, eight rounds for slot 0 and seven for slot 1, each handing the slot back.
-/
module

public import proofs.«01_k».proof.Proof.ProgIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 100000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter at zero. -/
def s₀ : MemSt nD τ sig (Elt F) := ⟨m, fun _ => 0, ρ⟩

abbrev 𝒱₀ : Variants := Variants.none

/-! ## The ring -/

/-- The device to the right, and the device to the left. -/
def rt (c : Dev nD) : Dev nD := (![1, 5, 3, 7, 0, 9, 2, 11, 4, 13, 6, 15, 8, 14, 10, 12] : Fin 16 → Fin 16) c
def lt (c : Dev nD) : Dev nD := (![4, 0, 6, 2, 8, 1, 10, 3, 12, 5, 14, 7, 15, 9, 13, 11] : Fin 16 → Fin 16) c

theorem rt_lt : ∀ c, rt (lt c) = c := by decide
theorem lt_rt : ∀ c, lt (rt c) = c := by decide
theorem rt_ne_lt : ∀ c, rt c ≠ lt c := by decide

/-- The neighbour a lane goes to, and the one it comes from. -/
def nxt (l : Fin 4) (c : Dev nD) : Dev nD := if goesRight l then rt c else lt c
def prv (l : Fin 4) (c : Dev nD) : Dev nD := if goesRight l then lt c else rt c

theorem nxt_prv (l : Fin 4) (c : Dev nD) : nxt l (prv l c) = c := by
  unfold nxt prv; split
  · exact rt_lt c
  · exact lt_rt c
theorem prv_nxt (l : Fin 4) (c : Dev nD) : prv l (nxt l c) = c := by
  unfold nxt prv; split
  · exact lt_rt c
  · exact rt_lt c

/-- The ring of a lane as a permutation of the devices. -/
def around (l : Fin 4) : Dev nD ≃ Dev nD := ⟨nxt l, prv l, prv_nxt l, nxt_prv l⟩

theorem dev1_eq : ∀ c : Dev nD, (⟨k0_dev1 c, k0_dev1_lt c⟩ : Dev nD) = lt c := by decide +kernel
theorem dev2_eq : ∀ c : Dev nD, (⟨k0_dev2 c, k0_dev2_lt c⟩ : Dev nD) = rt c := by decide +kernel
theorem tgt_eq : ∀ (l : Fin 4) (c : Dev nD), tgt l c = nxt l c := by decide +kernel

/-! ## The cells -/

/-- A device's own semaphores: two send cells and fifteen landing cells per lane; -/
abbrev KI : Type := (Fin 4 × Fin 2) ⊕ (Fin 4 × Fin 15)
/-- all its cells: the barrier cell besides. -/
abbrev CI : Type := Option KI

def osem : KI → SemLoc sig
  | .inl p => .dma (sendS p.1 p.2)
  | .inr p => .dma (recvS p.1 p.2)
def csem : CI → SemLoc sig
  | none => .reg barS
  | some k => osem k

theorem csem_inj : Function.Injective csem := by
  have h : ∀ a b : CI, csem a = csem b → a = b := by decide +kernel
  exact fun a b => h a b

abbrev cell (c : Dev nD) (i : CI) : GSem nD τ sig := ((c : Thread nD τ), csem i)
abbrev barCell (c : Dev nD) : GSem nD τ sig := ((c : Thread nD τ), .reg barS)
abbrev sendCell (c : Dev nD) (l : Fin 4) (s : Fin 2) : GSem nD τ sig := ((c : Thread nD τ), .dma (sendS l s))
abbrev recvCell (c : Dev nD) (l : Fin 4) (t : Fin 15) : GSem nD τ sig := ((c : Thread nD τ), .dma (recvS l t))

open Classical in
/-- Which of its device's cells a semaphore is. -/
def kind (g : GSem nD τ sig) : Option CI :=
  if g.1.2 = .tc then (if h : ∃ i, csem i = g.2 then some h.choose else none) else none

theorem kind_cell (c : Dev nD) (i : CI) : kind (cell c i) = some i := by
  have h : ∃ j, csem j = csem i := ⟨i, rfl⟩
  unfold kind
  rw [if_pos rfl, dif_pos h]
  exact congrArg some (csem_inj h.choose_spec)
theorem kind_bar (c : Dev nD) : kind (barCell c) = some none := kind_cell c none
theorem kind_send (c : Dev nD) (l : Fin 4) (s : Fin 2) : kind (sendCell c l s) = some (some (.inl (l, s))) := kind_cell c (some (.inl (l, s)))
theorem kind_recv (c : Dev nD) (l : Fin 4) (t : Fin 15) : kind (recvCell c l t) = some (some (.inr (l, t))) := kind_cell c (some (.inr (l, t)))

/-- The units of one copy. -/
abbrev N : ℕ := (recvV 0 0).view.dmaCredit
theorem N_pos : 0 < N := View.dmaCredit_pos _ (by decide)
theorem credit_recv : ∀ (l : Fin 4) (t : Fin 15), (recvV l t).view.dmaCredit = N
  | 0, _ => rfl | 1, _ => rfl | 2, _ => rfl | 3, _ => rfl
theorem credit_send : ∀ (l : Fin 4) (s : Fin 2), (sendV l s).view.dmaCredit = N
  | 0, _ => rfl | 1, _ => rfl | 2, _ => rfl | 3, _ => rfl

/-! ## The contents -/

/-- A device's blocks of the operands, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

abbrev stepRect (c : Dev nD) (l : Fin 4) (t : Fin 15) : Rect S4096x256 :=
  Rect.unit (s := S4096x256) (xOff c (offRow l t)) S256x256.size (k0_off1_inb c (offRow l t))
abbrev ownRect (c : Dev nD) : Rect S4096x256 := Rect.unit (s := S4096x256) (k0_off2 c) S256x256.size (k0_off2_inb c)

/-- The rows a device multiplies at a step, the rows it keeps, and a lane's columns of its weights. -/
def stepX (c : Dev nD) (l : Fin 4) (t : Fin 15) : Vec F S256x256 .bf16 := xM.view.readAt (Elt F) (stepRect c l t).toLoadRect (xstg m ρ c)
def ownX (c : Dev nD) : Vec F S256x256 .bf16 := xM.view.readAt (Elt F) (ownRect c).toLoadRect (xstg m ρ c)
def laneW (c : Dev nD) (l : Fin 4) : Vec F S256x512 .bf16 := wM.view.readAt (Elt F) (colRect l).toLoadRect (wstg m ρ c)

/-- A product plus a partial sum in bfloat16. -/
def join (a : FVec F S256x512 .f32) (x : FVec F S256x512 .bf16) : FVec F S256x512 .f32 := addf a (extf .f32 x bitsLt_bf16_f32)

/-- A lane's sum on a device at a step. -/
def sum (l : Fin 4) : (t : ℕ) → t < 15 → Dev nD → FVec F S256x512 .f32
  | 0, h, c => gemm (stepX m ρ c l ⟨0, h⟩) (laneW m ρ c l)
  | t + 1, h, c => join (gemm (stepX m ρ c l ⟨t + 1, h⟩) (laneW m ρ c l)) (truncf .bf16 (sum l t (Nat.lt_of_succ_lt h) (prv l c)) bitsLt_bf16_f32)
/-- What it sends on at that step. -/
def part (l : Fin 4) (t : Fin 15) (c : Dev nD) : FVec F S256x512 .bf16 := truncf .bf16 (sum m ρ l t.val t.isLt c) bitsLt_bf16_f32
/-- What it returns of the lane. -/
def last (l : Fin 4) (c : Dev nD) : FVec F S256x512 .f32 := relu (join (gemm (ownX m ρ c) (laneW m ρ c l)) (part m ρ l 14 (prv l c)))

/-- A slot at any contents. -/
def sendAny (c : Dev nD) (l : Fin 4) (s : Fin 2) : sProp 𝕄 :=
  iprop(∃ f, (sendV l s).view.loc (c : Thread nD τ) ↦[(sendV l s).view.set]{fullShare} f)
def recvAny (c : Dev nD) (l : Fin 4) (t : Fin 15) : sProp 𝕄 :=
  iprop(∃ f, (recvV l t).view.loc (c : Thread nD τ) ↦[(recvV l t).view.set]{fullShare} f)
/-- A landing slot holding what landed in it. -/
def recvHas (c : Dev nD) (l : Fin 4) (t : Fin 15) : sProp 𝕄 :=
  owns (c : Thread nD τ) (recvV l t) fullShare (part m ρ l t (prv l c))

instance sendAny_storable (c : Dev nD) (l s) : BI.Storable (upEmb : UEmb _ 𝕄) (sendAny (F := F) c l s) := by unfold sendAny; infer_instance
instance recvAny_storable (c : Dev nD) (l t) : BI.Storable (upEmb : UEmb _ 𝕄) (recvAny (F := F) c l t) := by unfold recvAny; infer_instance
instance recvHas_storable (c : Dev nD) (l t) : BI.Storable (upEmb : UEmb _ 𝕄) (recvHas (F := F) m ρ c l t) := by unfold recvHas; infer_instance

/-! ## The schedule -/

/-- The lanes of a direction. -/
def lanes (b : Bool) : Finset (Fin 4) := Finset.univ.filter fun l => goesRight l = b

/-- What the barrier unit of the neighbour on side `b` (right when true) hands over: that neighbour's landing slots of
    the lanes going to it. -/
def barPay (c : Dev nD) (b : Bool) : sProp 𝕄 :=
  bigSep (lanes b) fun l => bigSep Finset.univ fun t => recvAny (nxt l c) l t

/-- The rounds of a send slot. -/
def rounds (s : Fin 2) : ℕ := 8 - s.val

def dutiesOf : CI → ℕ → Finset Bool
  | none, r => if r = 0 then Finset.univ else ∅
  | some (.inl p), r => if r < rounds p.2 then {false} else ∅
  | some (.inr _), r => if r = 0 then {false} else ∅
def amountOf : CI → ℕ
  | none => 1
  | some _ => N
def payOf (c : Dev nD) : CI → Bool → sProp 𝕄
  | none, b => barPay c b
  | some (.inl p), _ => sendAny c p.1 p.2
  | some (.inr p), _ => recvHas m ρ c p.1 p.2

def ringRd : Rounds.Schedule (GSem nD τ sig) Bool 𝕄 where
  duties g r := (kind g).elim ∅ fun i => dutiesOf i r
  unitless _ := False
  amount g _ _ := (kind g).elim 1 amountOf
  payload g _ d := (kind g).elim iprop(emp) fun i => payOf m ρ g.1.1 i d
  amount_pos g _ _ _ := by
    cases kind g with
    | none => exact Nat.one_pos
    | some i => cases i with
      | none => exact Nat.one_pos
      | some k => exact N_pos

instance payOf_storable (c : Dev nD) (i : CI) (d : Bool) : BI.Storable (upEmb : UEmb _ 𝕄) (payOf (F := F) m ρ c i d) := by
  match i with
  | none => unfold payOf barPay; infer_instance
  | some (.inl p) => unfold payOf; infer_instance
  | some (.inr p) => unfold payOf; infer_instance
instance ringRd_payload_storable (g : GSem nD τ sig) (r : ℕ) (d : Bool) :
    BI.Storable (upEmb : UEmb _ 𝕄) ((ringRd (F := F) m ρ).payload g r d) := by
  show BI.Storable upEmb ((kind g).elim iprop(emp) fun i => payOf m ρ g.1.1 i d)
  cases kind g with
  | none => exact (inferInstance : BI.Storable (upEmb : UEmb _ 𝕄) iprop(emp))
  | some i => exact payOf_storable m ρ g.1.1 i d

section Tables
variable (c : Dev nD) (l : Fin 4) (s : Fin 2) (t : Fin 15)

theorem duties_cell (i : CI) (r : ℕ) : (ringRd (F := F) m ρ).duties (cell c i) r = dutiesOf i r := by
  dsimp only [ringRd]; rw [kind_cell]; rfl
theorem duties_bar : (ringRd (F := F) m ρ).duties (barCell c) 0 = Finset.univ := duties_cell m ρ c none 0
theorem duties_send (r : ℕ) (h : r < rounds s) : (ringRd (F := F) m ρ).duties (sendCell c l s) r = {false} :=
  (duties_cell m ρ c (some (.inl (l, s))) r).trans (if_pos h)
theorem duties_recv : (ringRd (F := F) m ρ).duties (recvCell c l t) 0 = {false} := duties_cell m ρ c (some (.inr (l, t))) 0
theorem duties_bar_later : ∀ r, 1 ≤ r → (ringRd (F := F) m ρ).duties (barCell c) r = ∅ :=
  fun r h => (duties_cell m ρ c none r).trans (if_neg (by omega))
theorem duties_send_later : ∀ r, rounds s ≤ r → (ringRd (F := F) m ρ).duties (sendCell c l s) r = ∅ :=
  fun r h => (duties_cell m ρ c (some (.inl (l, s))) r).trans (if_neg (by show ¬ r < rounds s; omega))
theorem duties_recv_later : ∀ r, 1 ≤ r → (ringRd (F := F) m ρ).duties (recvCell c l t) r = ∅ :=
  fun r h => (duties_cell m ρ c (some (.inr (l, t))) r).trans (if_neg (by omega))

theorem amount_cell (i : CI) (r : ℕ) (d : Bool) : (ringRd (F := F) m ρ).amount (cell c i) r d = amountOf i := by
  dsimp only [ringRd]; rw [kind_cell]; rfl
theorem amount_bar (r : ℕ) (d : Bool) : (ringRd (F := F) m ρ).amount (barCell c) r d = 1 := amount_cell m ρ c none r d
theorem amount_send (r : ℕ) (d : Bool) : (ringRd (F := F) m ρ).amount (sendCell c l s) r d = N := amount_cell m ρ c (some (.inl (l, s))) r d
theorem amount_recv (r : ℕ) (d : Bool) : (ringRd (F := F) m ρ).amount (recvCell c l t) r d = N := amount_cell m ρ c (some (.inr (l, t))) r d

theorem expect_bar : (ringRd (F := F) m ρ).expect (barCell c) 0 = 2 := by
  unfold Schedule.expect Schedule.amountOf
  rw [duties_bar, Finset.sum_congr rfl fun d _ => amount_bar m ρ c 0 d, Finset.sum_const, Finset.card_univ, Fintype.card_bool, smul_eq_mul]
theorem expect_send (r : ℕ) (h : r < rounds s) : (ringRd (F := F) m ρ).expect (sendCell c l s) r = N := by
  unfold Schedule.expect Schedule.amountOf; rw [duties_send m ρ c l s r h, Finset.sum_singleton, amount_send]
theorem expect_recv : (ringRd (F := F) m ρ).expect (recvCell c l t) 0 = N := by
  unfold Schedule.expect Schedule.amountOf; rw [duties_recv, Finset.sum_singleton, amount_recv]

theorem payload_cell (i : CI) (r : ℕ) (d : Bool) : (ringRd (F := F) m ρ).payload (cell c i) r d = payOf m ρ c i d := by
  dsimp only [ringRd]; rw [kind_cell]; rfl
theorem payload_bar (r : ℕ) (d : Bool) : (ringRd (F := F) m ρ).payload (barCell c) r d = barPay c d := payload_cell m ρ c none r d
theorem payload_send (r : ℕ) (d : Bool) : (ringRd (F := F) m ρ).payload (sendCell c l s) r d = sendAny c l s :=
  payload_cell m ρ c (some (.inl (l, s))) r d
theorem payload_recv (r : ℕ) (d : Bool) : (ringRd (F := F) m ρ).payload (recvCell c l t) r d = recvHas m ρ c l t :=
  payload_cell m ρ c (some (.inr (l, t))) r d

/-- What a whole round of each kind of cell hands over. -/
theorem rest_bar : bigSep ((ringRd (F := F) m ρ).duties (barCell c) 0 \ ∅) (fun d => (ringRd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (r : ℕ) (h : r < rounds s) :
    bigSep ((ringRd (F := F) m ρ).duties (sendCell c l s) r \ ∅) (fun d => (ringRd (F := F) m ρ).payload (sendCell c l s) r d) = sendAny c l s := by
  rw [Finset.sdiff_empty, duties_send m ρ c l s r h, bigSep_singleton, payload_send]
theorem rest_recv : bigSep ((ringRd (F := F) m ρ).duties (recvCell c l t) 0 \ ∅) (fun d => (ringRd (F := F) m ρ).payload (recvCell c l t) 0 d)
    = recvHas m ρ c l t := by
  rw [Finset.sdiff_empty, duties_recv, bigSep_singleton, payload_recv]

end Tables

/-! ## What is owed, and the levels -/

/-- The sixty copies of a device in order. -/
def steps : List (Fin 15 × Fin 4) := (List.finRange 15).flatMap fun t => (List.finRange 4).map fun l => (t, l)

/-- What a device owes for the copies of a list. -/
def owe (c : Dev nD) : List (Fin 15 × Fin 4) → CellTallies nD τ sig Unit
  | [] => 0
  | p :: ps => owe c ps + tallyAt (recvCell (nxt p.2 c) p.2 p.1) () N
/-- What it owes at launch: the copies, and a unit to each neighbour's barrier. -/
def O₁ (c : Dev nD) : CellTallies nD τ sig Unit := owe c steps + tallyAt (barCell (rt c)) () 1
def O₀ (c : Dev nD) : CellTallies nD τ sig Unit := O₁ c + tallyAt (barCell (lt c)) () 1

def L (g : GSem nD τ sig) : Finset Unit := if g.1.2 = .tc then {()} else ∅
/-- The landing cell of step `t` is at `t + 2`, the barrier at 1, every other cell at 0. -/
def lv (g : GSem nD τ sig) (_ : Unit) : ℕ :=
  (kind g).elim 0 fun i => i.elim 1 fun k => k.elim (fun _ => 0) fun p => p.2.val + 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]; rfl
theorem lv_send (c : Dev nD) (l s) : lv (sendCell c l s) () = 0 := by unfold lv; rw [kind_send]; rfl
theorem lv_recv (c : Dev nD) (l t) : lv (recvCell c l t) () = t.val + 2 := by unfold lv; rw [kind_recv]; rfl

theorem owe_pos {c : Dev nD} {g : GSem nD τ sig} {u : Unit} : ∀ {ps : List (Fin 15 × Fin 4)}, 0 < owe c ps g u →
    ∃ p ∈ ps, g = recvCell (nxt p.2 c) p.2 p.1
  | [], h => absurd h (Nat.lt_irrefl 0)
  | p :: ps, h => by
    unfold owe at h
    rw [Pi.add_apply, Finsupp.add_apply, tallyAt_apply] at h
    by_cases hp : g = recvCell (nxt p.2 c) p.2 p.1 ∧ u = ()
    · exact ⟨p, List.mem_cons_self, hp.1⟩
    · rw [if_neg hp, Nat.add_zero] at h
      obtain ⟨q, hq, e⟩ := owe_pos h
      exact ⟨q, List.mem_cons_of_mem _ hq, e⟩

theorem O₀_pos {c : Dev nD} {g : GSem nD τ sig} {u : Unit} (h : 0 < O₀ c g u) : ∃ (d : Dev nD) (i : CI), g = cell d i ∧ 1 ≤ lv g u := by
  unfold O₀ O₁ at h
  rw [Pi.add_apply, Finsupp.add_apply, Pi.add_apply, Finsupp.add_apply, tallyAt_apply, tallyAt_apply] at h
  by_cases h1 : g = barCell (lt c) ∧ u = ()
  · exact ⟨lt c, none, h1.1, by rw [h1.1]; exact (lv_bar _).ge⟩
  by_cases h2 : g = barCell (rt c) ∧ u = ()
  · exact ⟨rt c, none, h2.1, by rw [h2.1]; exact (lv_bar _).ge⟩
  rw [if_neg h1, if_neg h2] at h
  obtain ⟨p, _, e⟩ := owe_pos (show 0 < owe c steps g u from h)
  exact ⟨nxt p.2 c, some (.inr (p.2, p.1)), e, by rw [e]; exact le_of_le_of_eq (by omega) (lv_recv _ _ _).symm⟩

/-- A wait below every landing cell still owed. -/
theorem mayWait_owe (c : Dev nD) (sm : SemLoc sig) (ps : List (Fin 15 × Fin 4))
    (h : ∀ p ∈ ps, lv ((c : Thread nD τ), sm) () < p.1.val + 2) :
    (levAts L lv : sProp 𝕄) ⊢ MayWait (c : Thread nD τ) sm () (owe c ps) :=
  Pipeline.mayWait_of_levAts (by rw [L_tc]; exact Finset.mem_singleton_self _) fun g i hg => by
    obtain ⟨p, hp, rfl⟩ := owe_pos hg
    exact ⟨by rw [L_tc]; exact Finset.mem_singleton_self _, lt_of_lt_of_eq (h p hp) (lv_recv _ _ _).symm⟩

/-- A staging wait, before anything is paid or after everything is. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · exact Pipeline.mayWait_of_levAts (by rw [L_tc]; exact Finset.mem_singleton_self _) fun g i hg => by
      obtain ⟨d, j, rfl, h⟩ := O₀_pos hg
      exact ⟨by rw [L_tc]; exact Finset.mem_singleton_self _, by rw [hq]; exact h⟩
  · rw [MayWait_zero]; iintro -; iempintro

end Cert.KernelIdeal.Ring

end
-- ==== Proof.StepIdeal.lean ====
/-
# One turn of a lane

A turn multiplies a block of rows, adds what landed at the step before, takes its send slot back, writes the rounded sum
there and copies it to the neighbour. What a turn takes and gives is said once for every lane and step (`wp_turn`), and so
for a lane's last sum (`wp_finish`) and its last two waits (`wp_settle`).
-/
module

public import proofs.«01_k».proof.Proof.SchedIdeal
public import Idealize.ShloMosaic.Lib.Pipeline.Value

@[expose] public section

set_option maxRecDepth 100000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots and the rectangles they are cut by -/

theorem send_set (l : Fin 4) (s : Fin 2) : ((sendM l).access (sendRect s)).set = (sendV l s).view.set := (View.set_reshape _ _).symm
theorem recv_set (l : Fin 4) (t : Fin 15) : ((recvM l).access (recvRect t)).set = (recvV l t).view.set := (View.set_reshape _ _).symm

/-- What a lane's load of a landing slot reads, as the block the slot holds. -/
theorem recv_cast (l : Fin 4) (t : Fin 15) (f : (recvM l).view.ty.Contents (Elt F)) :
    (shapeCast S256x512 (((recvM l).access (recvRect t)).read (Elt F) f : Vec F S1x256x512 .bf16) shapeCasts_S1x256x512_S256x512 : FVec F S256x512 .bf16)
      = (recvV l t).view.read (Elt F) f := rfl

/-- Storing a sum in a send slot leaves it there rounded. -/
theorem send_stored (l : Fin 4) (s : Fin 2) (f : (sendM l).view.ty.Contents (Elt F)) (a : FVec F S256x512 .f32) :
    (sendV l s).view.read (Elt F) (((sendM l).access (sendRect s)).write (Elt F) f (pack a) Finset.univ) = truncf .bf16 a bitsLt_bf16_f32 := by
  show (shapeCast S256x512 (((sendM l).access (sendRect s)).read (Elt F) (((sendM l).access (sendRect s)).write (Elt F) f (pack a) Finset.univ) : Vec F S1x256x512 .bf16)
    shapeCasts_S1x256x512_S256x512 : FVec F S256x512 .bf16) = _
  rw [View.read_write_univ]
  exact shapeCast_shapeCast _ _ _

theorem plus_eq (a : FVec F S256x512 .f32) (r : Vec F S1x256x512 .bf16) :
    plus a r = join a (shapeCast S256x512 r shapeCasts_S1x256x512_S256x512 : FVec F S256x512 .bf16) := rfl

/-! ## What a turn takes and gives -/

/-- The cells' invariants under the names `K`, and that every cell has reached round 0. -/
def recs (K : Dev nD × CI → ℕ) : sProp 𝕄 :=
  bigSep Finset.univ fun p : Dev nD × CI => iprop(cellInv ER (ringRd m ρ) (K p) (cell p.1 p.2) ∗ reached ER (cell p.1 p.2) 0)

instance recs_persistent (K : Dev nD × CI → ℕ) : BI.Persistent (recs (F := F) m ρ K) := by unfold recs; infer_instance

/-- One cell's record. -/
theorem recs_at (K : Dev nD × CI → ℕ) (c : Dev nD) (i : CI) :
    recs (F := F) m ρ K ⊢ iprop(cellInv ER (ringRd m ρ) (K (c, i)) (cell c i) ∗ reached ER (cell c i) 0) :=
  bigSep_elim (Finset.mem_univ (c, i))

/-- What a device still owes, whatever it has waited on. -/
def ow (c : Dev nD) (O : CellTallies nD τ sig Unit) : sProp 𝕄 := iprop(∃ W, owes (c : Thread nD τ) O W)

/-- A lane's send slot before step `t`: free at first, then under way with the copy of step `t - 2`. -/
def sl (c : Dev nD) (l : Fin 4) : ℕ → sProp 𝕄
  | 0 => iprop(sendAny c l 0 ∗ atPos ER (sendCell c l 0) 0 ∅ 0)
  | 1 => iprop(sendAny c l 1 ∗ atPos ER (sendCell c l 1) 0 ∅ 0)
  | j + 2 => iprop(cred (tallyAt (sendCell c l (slot j)) () N) ∗ atPos ER (sendCell c l (slot j)) (j / 2) ∅ 0)

/-- What step `t` waits for, and what it gives after: nothing at step 0, the landing of step `t - 1` after. -/
def ld (c : Dev nD) (l : Fin 4) : (t : ℕ) → t ≤ 15 → sProp 𝕄
  | 0, _ => iprop(emp)
  | t + 1, h => iprop(cred (tallyAt (recvCell c l ⟨t, h⟩) () N) ∗ atPos ER (recvCell c l ⟨t, h⟩) 0 ∅ 0)
def dn (c : Dev nD) (l : Fin 4) : (t : ℕ) → t ≤ 15 → sProp 𝕄
  | 0, _ => iprop(emp)
  | t + 1, h => iprop(recvAny c l ⟨t, h⟩ ∗ atPos ER (recvCell c l ⟨t, h⟩) 1 ∅ 0)

/-- What the copy of step `t` spends: its two duties and the slot it lands in. -/
def tk (c : Dev nD) (l : Fin 4) (t : Fin 15) : sProp 𝕄 :=
  iprop(dutyTok ER (sendCell c l (slot t)) (t.val / 2) false ∗ dutyTok ER (recvCell (nxt l c) l t) 0 false ∗ recvAny (nxt l c) l t)

/-- The staged operands, which no turn changes. -/
def ins (c : Dev nD) : sProp 𝕄 :=
  iprop(((xM.view.loc (c : Thread nD τ)) ↦{fullShare} xstg m ρ c) ∗ ((wM.view.loc (c : Thread nD τ)) ↦{fullShare} wstg m ρ c))

abbrev WP (c : Dev nD) {α : Type} (p : KProg (F := F) α) (Q : α → sProp 𝕄) : sProp 𝕄 :=
  wp frame (wpE (defs₀ (F := F)) 𝒱₀ (c : Thread nD τ) none) Set.univ p Q

theorem half_lt {j : ℕ} (h : j < 15) : j / 2 < rounds (slot j) := by
  show j / 2 < 8 - j % 2
  omega

section Turn

variable (K : Dev nD × CI → ℕ) (c : Dev nD)

/-- The wait for one landing: its slot comes holding what landed. -/
theorem wp_land {α : Type} {Q : α → sProp 𝕄} (l : Fin 4) (t : Fin 15) (s : Fin 2) (ps : List (Fin 15 × Fin 4)) (hps : ∀ p ∈ ps, t.val < p.1.val)
    {h1 h2} {k : PUnit → KProg (F := F) α} :
    iprop(recs m ρ K ∗ levAts L lv ∗ ow c (owe c ps) ∗ cred (tallyAt (recvCell c l t) () N) ∗ atPos ER (recvCell c l t) 0 ∅ 0
      ∗ ((ow c (owe c ps) ∗ recvHas m ρ c l t ∗ atPos ER (recvCell c l t) 1 ∅ 0) -∗ WP c (k ⟨⟩) Q))
      ⊢ WP c (.op (.waitDma2 (recvS l t) (sendV l s) (recvV l t) h1 h2) k) Q := by
  unfold ow
  iintro ⟨#Hrec, #Hlev, ⟨%W, HO⟩, Hc, Hat, Hk⟩
  ihave ⟨#HI, #Hr⟩ := (recs_at m ρ K c (some (.inr (l, t)))) $$ Hrec
  iapply (Rounds.wp_wait_rest_token 𝒱₀ ER (ringRd m ρ) (c : Thread nD τ) none (κ := K (c, some (.inr (l, t))))
      (wpE_waitDma2_eq 𝒱₀ (c : Thread nD τ) none Set.univ) (Set.mem_univ _) () (O := owe c ps) (W := W) (R := 0) (m := 0) (T := ∅)
      (by rw [Nat.zero_add, expect_recv, credit_recv])) $$ [Hc HO Hat]
  · isplitr; · iexact HI
    isplitl [Hc]; · rw [credit_recv]; iexact Hc
    isplitl [HO]; · iexact HO
    isplitr
    · iapply (mayWait_owe c (.dma (recvS l t)) ps (fun p hp => by rw [lv_recv]; have := hps p hp; omega)); iexact Hlev
    iexact Hat
  iintro ⟨HO, Hat, -, Hpay⟩
  ihave Hpay := (Entails.of_eq (rest_recv m ρ c l t)) $$ Hpay
  iapply Hk
  isplitl [HO]; · iexists _; iexact HO
  isplitl [Hpay]; · iexact Hpay
  iexact Hat

/-- The wait for the copy a send slot is under way with: the slot comes back. -/
theorem wp_back {α : Type} {Q : α → sProp 𝕄} (l : Fin 4) (j : ℕ) (t : Fin 15) (hj : j < 15) (ps : List (Fin 15 × Fin 4)) {h1 h2} {k : PUnit → KProg (F := F) α} :
    iprop(recs m ρ K ∗ levAts L lv ∗ ow c (owe c ps) ∗ sl c l (j + 2)
      ∗ ((ow c (owe c ps) ∗ sendAny c l (slot j) ∗ atPos ER (sendCell c l (slot j)) (j / 2 + 1) ∅ 0
          ∗ reached ER (sendCell c l (slot j)) (j / 2 + 1)) -∗ WP c (k ⟨⟩) Q))
      ⊢ WP c (.op (.waitDma2 (sendS l (slot j)) (recvV l t) (sendV l (slot j)) h1 h2) k) Q := by
  unfold ow sl
  iintro ⟨#Hrec, #Hlev, ⟨%W, HO⟩, ⟨Hc, Hat⟩, Hk⟩
  ihave ⟨#HI, #Hr⟩ := (recs_at m ρ K c (some (.inl (l, slot j)))) $$ Hrec
  iapply (Rounds.wp_wait_rest_token 𝒱₀ ER (ringRd m ρ) (c : Thread nD τ) none (κ := K (c, some (.inl (l, slot j))))
      (wpE_waitDma2_eq 𝒱₀ (c : Thread nD τ) none Set.univ) (Set.mem_univ _) () (O := owe c ps) (W := W) (R := j / 2) (m := 0) (T := ∅)
      (by rw [Nat.zero_add, expect_send m ρ c l (slot j) (j / 2) (half_lt hj), credit_send])) $$ [Hc HO Hat]
  · isplitr; · iexact HI
    isplitl [Hc]; · rw [credit_send]; iexact Hc
    isplitl [HO]; · iexact HO
    isplitr
    · iapply (mayWait_owe c (.dma (sendS l (slot j))) ps (fun p hp => by rw [lv_send]; omega)); iexact Hlev
    iexact Hat
  iintro ⟨HO, Hat, #Hr', Hpay⟩
  ihave Hpay := (Entails.of_eq (rest_send m ρ c l (slot j) (j / 2) (half_lt hj))) $$ Hpay
  iapply Hk
  isplitl [HO]; · iexists _; iexact HO
  isplitl [Hpay]; · iexact Hpay
  isplitl [Hat]; · iexact Hat
  iexact Hr'

/-- What landed at the step before is added: the lane's sum of this step. -/
theorem wp_gather {α : Type} {Q : α → sProp 𝕄} (l : Fin 4) (t : ℕ) (h : t < 15) (ps : List (Fin 15 × Fin 4)) (hps : ∀ p ∈ ps, t ≤ p.1.val)
    {k : FVec F S256x512 .f32 → KProg (F := F) α} :
    iprop(recs m ρ K ∗ levAts L lv ∗ ow c (owe c ps) ∗ ld c l t h.le
      ∗ ((ow c (owe c ps) ∗ dn c l t h.le) -∗ WP c (k (sum m ρ l t h c)) Q))
      ⊢ WP c (gather l (gemm (stepX m ρ c l ⟨t, h⟩) (laneW m ρ c l)) t h >>= k) Q := by
  cases t with
  | zero =>
    unfold gather ld dn
    simp only [Prog.pure_eq_ret, Prog.bind_ret]
    iintro ⟨-, -, HO, -, Hk⟩
    iapply Hk
    isplitl [HO]; · iexact HO
    iempintro
  | succ t =>
    unfold gather ld dn waitRecv loadRecv
    simp only [Prog.lift, Prog.pure_eq_ret, Prog.bind_op, Prog.bind_ret]
    iintro ⟨#Hrec, #Hlev, HO, ⟨Hc, Hat⟩, Hk⟩
    iapply (wp_land m ρ K c l ⟨t, Nat.lt_of_succ_lt h⟩ (slot t) ps (fun p hp => hps p hp)) $$ [HO Hc Hat Hk]
    isplitr; · iexact Hrec
    isplitr; · iexact Hlev
    isplitl [HO]; · iexact HO
    isplitl [Hc]; · iexact Hc
    isplitl [Hat]; · iexact Hat
    iintro ⟨HO, Hs, Hat⟩
    unfold recvHas owns
    icases Hs with ⟨%f, %hf, Hs⟩
    iapply (wp_load_rect 𝒱₀ (c : Thread nD τ) none Set.univ (m := recvM l) (r := recvRect ⟨t, Nat.lt_of_succ_lt h⟩) (recv_set l _).le) $$ Hs
    iintro Hs
    rw [plus_eq, recv_cast, hf]
    iapply Hk
    isplitl [HO]; · iexact HO
    isplitl [Hs]; · unfold recvAny; iexists f; iexact Hs
    iexact Hat

/-- The send slot of a step is free again. -/
theorem wp_drain {α : Type} {Q : α → sProp 𝕄} (l : Fin 4) (t : ℕ) (h : t < 15) (ps : List (Fin 15 × Fin 4)) {k : PUnit → KProg (F := F) α} :
    iprop(recs m ρ K ∗ levAts L lv ∗ ow c (owe c ps) ∗ sl c l t
      ∗ ((ow c (owe c ps) ∗ sendAny c l (slot t) ∗ atPos ER (sendCell c l (slot t)) (t / 2) ∅ 0
          ∗ reached ER (sendCell c l (slot t)) (t / 2)) -∗ WP c (k ⟨⟩) Q))
      ⊢ WP c (drain l t h >>= k) Q := by
  match t with
  | 0 =>
    unfold drain sl
    simp only [Prog.pure_eq_ret, Prog.bind_ret]
    iintro ⟨#Hrec, -, HO, ⟨Hs, Hat⟩, Hk⟩
    ihave ⟨#HI, #Hr⟩ := (recs_at m ρ K c (some (.inl (l, 0)))) $$ Hrec
    iapply Hk
    isplitl [HO]; · iexact HO
    isplitl [Hs]; · iexact Hs
    isplitl [Hat]; · iexact Hat
    iexact Hr
  | 1 =>
    unfold drain sl
    simp only [Prog.pure_eq_ret, Prog.bind_ret]
    iintro ⟨#Hrec, -, HO, ⟨Hs, Hat⟩, Hk⟩
    ihave ⟨#HI, #Hr⟩ := (recs_at m ρ K c (some (.inl (l, 1)))) $$ Hrec
    iapply Hk
    isplitl [HO]; · iexact HO
    isplitl [Hs]; · iexact Hs
    isplitl [Hat]; · iexact Hat
    iexact Hr
  | j + 2 =>
    have e1 : slot (j + 2) = slot j := Fin.ext (by show (j + 2) % 2 = j % 2; omega)
    have e2 : (j + 2) / 2 = j / 2 + 1 := by omega
    rw [e1, e2]
    unfold drain waitSend
    simp only [Prog.lift, Prog.bind_op, Prog.bind_ret]
    exact wp_back m ρ K c l j ⟨j, by omega⟩ (by omega) ps

/-- The copy of a step: the slot and its sum go, the neighbour's landing cell is paid. -/
theorem wp_copy {α : Type} {Q : α → sProp 𝕄} (l : Fin 4) (t : Fin 15) (n : Dev nD) (hn : n = nxt l c) (ps : List (Fin 15 × Fin 4))
    (f : Buf (Elt F) ((sendV l (slot t)).view.loc (c : Thread nD τ))) (hf : (sendV l (slot t)).view.read (Elt F) f = part m ρ l t c)
    {h1 h2 h3} {k : PUnit → KProg (F := F) α} :
    iprop(recs m ρ K ∗ ow c (owe c ((t, l) :: ps)) ∗ tk c l t
      ∗ ((sendV l (slot t)).view.loc (c : Thread nD τ) ↦[(sendV l (slot t)).view.set]{fullShare} f)
      ∗ reached ER (sendCell c l (slot t)) (t.val / 2)
      ∗ ((ow c (owe c ps) ∗ cred (tallyAt (sendCell c l (slot t)) () N)) -∗ WP c (k ⟨⟩) Q))
      ⊢ WP c (.op (.enqueueDma (sendV l (slot t)) (.remote (Dev.tc n) (recvV l t) (.dma (sendS l (slot t)))) (.dma (recvS l t)) h1 h2 h3) k) Q := by
  subst hn
  unfold ow tk recvAny
  iintro ⟨#Hrec, ⟨%W, HO⟩, ⟨HtS, HtR, ⟨%fd, Hd⟩⟩, Hs, #HrS, Hk⟩
  ihave ⟨#HI1, #Hr1⟩ := (recs_at m ρ K c (some (.inl (l, slot t)))) $$ Hrec
  ihave ⟨#HI2, #Hr2⟩ := (recs_at m ρ K (nxt l c) (some (.inr (l, t)))) $$ Hrec
  iapply (Rounds.wp_send_pointsTo 𝒱₀ ER (ringRd m ρ) (c : Thread nD τ) none (κ₁ := K (c, some (.inl (l, slot t))))
    (κ₂ := K (nxt l c, some (.inr (l, t))))
    (r₁ := t.val / 2) (r₂ := 0) (d₁ := false) (d₂ := false) (fs := f) (fd := fd)
    (by rw [duties_send m ρ c l (slot t) _ (half_lt t.isLt)]; exact Finset.mem_singleton_self _)
    (by rw [duties_recv]; exact Finset.mem_singleton_self _)
    () () N (by exact credit_recv l t) (amount_send m ρ c l (slot t) _ false) (amount_recv m ρ (nxt l c) l t 0 false) (owe c ps) rfl (W := W)
    (by rw [payload_send]; unfold sendAny; iintro H; iexists f; iexact H)
    (by
      rw [payload_recv]; unfold recvHas owns; rw [prv_nxt]
      iintro H; iexists _
      isplitr; swap; · iexact H
      ipureintro; rw [View.read_write_univ, hf])) $$ [HO HtS HtR Hd Hs]
  · isplitr; · iexact HI1
    isplitr; · iexact HI2
    isplitl [Hs]; · iexact Hs
    isplitl [Hd]; · iexact Hd
    isplitl [HO]; · iexact HO
    isplitl [HtS]; · iexact HtS
    isplitr; · iexact HrS
    isplitl [HtR]; · iexact HtR
    iexact Hr2
  iintro ⟨Hc, HO⟩
  iapply Hk
  isplitl [HO]; · iexists W; iexact HO
  iexact Hc

/-- One turn, whatever follows. -/
theorem wp_turn {α : Type} {Q : α → sProp 𝕄} (l : Fin 4) (t : Fin 15) (ps : List (Fin 15 × Fin 4)) (hps : ∀ p ∈ ps, t ≤ p.1) {k : PUnit → KProg (F := F) α} :
    iprop(recs m ρ K ∗ levAts L lv ∗ ins m ρ c ∗ ow c (owe c ((t, l) :: ps)) ∗ sl c l t.val ∗ ld c l t.val t.isLt.le ∗ tk c l t
      ∗ ((ins m ρ c ∗ ow c (owe c ps) ∗ sl c l (t.val + 2) ∗ dn c l t.val t.isLt.le) -∗ WP c (k ⟨⟩) Q))
      ⊢ WP c (turn c t l >>= k) Q := by
  have hps' : ∀ p ∈ (t, l) :: ps, t.val ≤ p.1.val := fun p hp => by
    rcases List.mem_cons.mp hp with rfl | hp
    · exact le_rfl
    · exact hps p hp
  unfold turn loadX loadW loadSend storeSend copyTo ins
  simp only [Prog.lift, Prog.bind_op, Prog.bind_ret, bind_assoc]
  iintro ⟨#Hrec, #Hlev, ⟨Hx, Hw⟩, HO, Hsl, Hld, Htk, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_gather m ρ K c l t.val t.isLt ((t, l) :: ps) hps') $$ [Hx Hw HO Hsl Hld Htk Hk]
  isplitr; · iexact Hrec
  isplitr; · iexact Hlev
  isplitl [HO]; · iexact HO
  isplitl [Hld]; · iexact Hld
  iintro ⟨HO, Hdn⟩
  iapply (wp_drain m ρ K c l t.val t.isLt ((t, l) :: ps)) $$ [Hx Hw HO Hsl Hdn Htk Hk]
  isplitr; · iexact Hrec
  isplitr; · iexact Hlev
  isplitl [HO]; · iexact HO
  isplitl [Hsl]; · iexact Hsl
  iintro ⟨HO, Hs, Hat, #Hr⟩
  unfold sendAny
  icases Hs with ⟨%f, Hs⟩
  iapply (wp_load_rect 𝒱₀ (c : Thread nD τ) none Set.univ (m := sendM l) (r := sendRect (slot t)) (send_set l _).le) $$ Hs; iintro Hs
  iapply (wp_store 𝒱₀ (c : Thread nD τ) none Set.univ (m := sendM l) (r := sendRect (slot t)) (Mk := Finset.univ) (send_set l _).le) $$ Hs; iintro Hs
  iapply (wp_copy m ρ K c l t _ (tgt_eq l c) ps _ (send_stored l (slot t) f _)) $$ [Hx Hw HO Hat Hdn Htk Hk Hs]
  isplitr; · iexact Hrec
  isplitl [HO]; · iexact HO
  isplitl [Htk]; · iexact Htk
  isplitl [Hs]; · iexact Hs
  isplitr; · iexact Hr
  iintro ⟨HO, Hc⟩
  iapply Hk
  isplitl [Hx Hw]
  · isplitl [Hx] <;> iassumption
  isplitl [HO]; · iexact HO
  isplitl [Hc Hat]
  · unfold sl; isplitl [Hc] <;> iassumption
  iexact Hdn

/-- A lane's last sum: it is stored in the lane's columns of the result. -/
theorem wp_finish {α : Type} {Q : α → sProp 𝕄} (l : Fin 4) (f : Buf (Elt F) (oM.view.loc (c : Thread nD τ))) {k : PUnit → KProg (F := F) α} :
    iprop(recs m ρ K ∗ levAts L lv ∗ ins m ρ c ∗ ow c 0 ∗ ld c l 15 le_rfl ∗ ((oM.view.loc (c : Thread nD τ)) ↦{fullShare} f)
      ∗ ((ins m ρ c ∗ ow c 0 ∗ dn c l 15 le_rfl
          ∗ ((oM.view.loc (c : Thread nD τ)) ↦{fullShare} (oM.access (colRect l)).write (Elt F) f (last m ρ l c) Finset.univ)) -∗ WP c (k ⟨⟩) Q))
      ⊢ WP c (finish c l >>= k) Q := by
  unfold finish loadX loadW waitRecv loadRecv ins ld dn
  simp only [Prog.lift, Prog.bind_op, Prog.bind_ret, bind_assoc]
  iintro ⟨#Hrec, #Hlev, ⟨Hx, Hw⟩, HO, ⟨Hc, Hat⟩, Hout, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_land m ρ K c l 14 0 [] (fun p hp => absurd hp List.not_mem_nil)) $$ [Hx Hw HO Hc Hat Hk Hout]
  isplitr; · iexact Hrec
  isplitr; · iexact Hlev
  isplitl [HO]; · iexact HO
  isplitl [Hc]; · iexact Hc
  isplitl [Hat]; · iexact Hat
  iintro ⟨HO, Hs, Hat⟩
  unfold recvHas owns
  icases Hs with ⟨%g, %hg, Hs⟩
  iapply (wp_load_rect 𝒱₀ (c : Thread nD τ) none Set.univ (m := recvM l) (r := recvRect 14) (recv_set l _).le) $$ Hs
  iintro Hs
  iapply (wp_load 𝒱₀ (c : Thread nD τ) none Set.univ (m := oM) (Finset.subset_univ _)) $$ Hout; iintro Hout
  iapply (wp_store 𝒱₀ (c : Thread nD τ) none Set.univ (m := oM) (r := colRect l) (Mk := Finset.univ) (Finset.subset_univ _)) $$ Hout; iintro Hout
  rw [plus_eq, recv_cast, hg]
  iapply Hk
  isplitl [Hx Hw]
  · isplitl [Hx] <;> iassumption
  isplitl [HO]; · iexact HO
  isplitl [Hs Hat]
  · isplitl [Hs]; · unfold recvAny; iexists g; iexact Hs
    iexact Hat
  iexact Hout

/-- A send slot with every round done. -/
def fin (l : Fin 4) (s : Fin 2) : sProp 𝕄 := iprop(sendAny c l s ∗ atPos ER (sendCell c l s) (rounds s) ∅ 0)

/-- A lane's last two waits. -/
theorem wp_settle {α : Type} {Q : α → sProp 𝕄} (l : Fin 4) {k : PUnit → KProg (F := F) α} :
    iprop(recs m ρ K ∗ levAts L lv ∗ ow c 0 ∗ sl c l 15 ∗ sl c l 16
      ∗ ((ow c 0 ∗ fin c l 1 ∗ fin c l 0) -∗ WP c (k ⟨⟩) Q))
      ⊢ WP c (settle l >>= k) Q := by
  unfold settle waitSend
  simp only [Prog.lift, Prog.bind_op, Prog.bind_ret, bind_assoc]
  iintro ⟨#Hrec, #Hlev, HO, H1, H0, Hk⟩
  iapply (wp_back m ρ K c l 13 13 (by decide) []) $$ [HO H1 H0 Hk]
  isplitr; · iexact Hrec
  isplitr; · iexact Hlev
  isplitl [HO]; · iexact HO
  isplitl [H1]; · iexact H1
  iintro ⟨HO, Hs1, Hat1, -⟩
  iapply (wp_back m ρ K c l 14 14 (by decide) []) $$ [HO H0 Hk Hs1 Hat1]
  isplitr; · iexact Hrec
  isplitr; · iexact Hlev
  isplitl [HO]; · iexact HO
  isplitl [H0]; · iexact H0
  iintro ⟨HO, Hs0, Hat0, -⟩
  iapply Hk
  isplitl [HO]; · iexact HO
  unfold fin
  isplitl [Hs1 Hat1]
  · isplitl [Hs1]; · iexact Hs1
    iexact Hat1
  isplitl [Hs0]; · iexact Hs0
  iexact Hat0

end Turn

end Cert.KernelIdeal.Ring

end
-- ==== Proof.BodyIdeal.lean ====
/-
# The body of the kernel

The sixty turns in order, one after another (`wp_list`), between the handshake and the closing of the cells: from what
the launch gives a device to its result in place and every counter back at zero (`sound_body`).
-/
module

public import proofs.«01_k».proof.Proof.StepIdeal

@[expose] public section

set_option maxRecDepth 100000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over lists and over the cells -/

/-- A conjunction along a list. -/
def all {ι : Type} (A : ι → sProp 𝕄) : List ι → sProp 𝕄
  | [] => iprop(emp)
  | p :: ps => iprop(A p ∗ all A ps)

theorem all_eq {ι : Type} [DecidableEq ι] (A : ι → sProp 𝕄) : ∀ l : List ι, l.Nodup → all (F := F) A l = bigSep l.toFinset A
  | [], _ => rfl
  | p :: ps, h => by
    rw [List.toFinset_cons, bigSep_insert (fun hp => (List.nodup_cons.mp h).1 (List.mem_toFinset.mp hp)), ← all_eq A ps (List.nodup_cons.mp h).2]
    rfl

/-- Along all sixty steps: over the lanes, over a lane's steps. -/
theorem all_steps (A : Fin 15 → Fin 4 → sProp 𝕄) :
    all (F := F) (fun p : Fin 15 × Fin 4 => A p.1 p.2) steps = bigSep Finset.univ fun l => bigSep Finset.univ fun t => A t l := by
  rw [all_eq _ _ (by decide +kernel), show steps.toFinset = Finset.univ by decide +kernel,
    BI.bigSep_univ_prod (fun p : Fin 15 × Fin 4 => A p.1 p.2), bigSep_univ_comm]

theorem bigSep_lanes (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_slots (Φ : Fin 2 → sProp 𝕄) : bigSep Finset.univ Φ = iprop(Φ 0 ∗ Φ 1) :=
  bigSep_univ_eq_bigSepL [0, 1] (by decide) (by decide) Φ
theorem bigSep_option {ι : Type} [Fintype ι] [DecidableEq ι] (Φ : Option ι → sProp 𝕄) :
    bigSep Finset.univ Φ = iprop(Φ none ∗ bigSep Finset.univ fun k => Φ (some k)) := by
  rw [BI.bigSep_univ_split none, show (Finset.univ : Finset (Option ι)).erase none = Finset.univ.map Function.Embedding.some by
    ext i; cases i <;> simp, BI.bigSep_map]
  rfl

/-- Over a device's cells: its barrier cell, its send cells, its landing cells. -/
theorem bigSep_cells (Φ : CI → sProp 𝕄) : bigSep Finset.univ Φ
    = iprop(Φ none ∗ (bigSep Finset.univ fun l => bigSep Finset.univ fun s => Φ (some (.inl (l, s))))
        ∗ (bigSep Finset.univ fun l => bigSep Finset.univ fun t => Φ (some (.inr (l, t))))) := by
  rw [bigSep_option, BI.bigSep_univ_sum, BI.bigSep_univ_prod (fun p : Fin 4 × Fin 2 => Φ (some (.inl p))),
    BI.bigSep_univ_prod (fun p : Fin 4 × Fin 15 => Φ (some (.inr p)))]
  rfl

/-- A family over sixteen from its first and the rest, and from all but its last and its last. -/
theorem bigSep_shift (Φ : Fin 16 → sProp 𝕄) :
    iprop(Φ 0 ∗ bigSep Finset.univ fun t : Fin 15 => Φ t.succ) = iprop((bigSep Finset.univ fun t : Fin 15 => Φ t.castSucc) ∗ Φ (Fin.last 15)) := by
  have h1 : bigSep Finset.univ Φ = iprop(Φ 0 ∗ bigSep Finset.univ fun t : Fin 15 => Φ t.succ) := by
    rw [BI.bigSep_univ_split 0, show (Finset.univ : Finset (Fin 16)).erase 0 = Finset.univ.map (Fin.succEmb 15) by decide, BI.bigSep_map]; rfl
  have h2 : bigSep Finset.univ Φ = iprop(Φ (Fin.last 15) ∗ bigSep Finset.univ fun t : Fin 15 => Φ t.castSucc) := by
    rw [BI.bigSep_univ_split (Fin.last 15), show (Finset.univ : Finset (Fin 16)).erase (Fin.last 15) = Finset.univ.map Fin.castSuccEmb by decide,
      BI.bigSep_map]; rfl
  rw [← h1, h2]
  exact BI.equiv_iff.mp ⟨BI.sep_comm, BI.sep_comm⟩

theorem bigSep_at (l : Fin 4) (Φ : Fin 4 → sProp 𝕄) : bigSep Finset.univ Φ = iprop(Φ l ∗ bigSep (Finset.univ.erase l) Φ) :=
  BI.bigSep_univ_split l

theorem emp_sep_eq (P : sProp 𝕄) : iprop(emp ∗ P) = P := equiv_iff.mp emp_sep

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The turns in order -/

/-- How many of a lane's steps are done when those of `ps` are left. -/
def cnt (l : Fin 4) (ps : List (Fin 15 × Fin 4)) : ℕ := 15 - ps.countP fun p => p.2 = l

/-- The steps left are in order, each lane's one after another. -/
def inOrder : List (Fin 15 × Fin 4) → Bool
  | [] => true
  | p :: ps => decide (cnt p.2 (p :: ps) = p.1.val) && decide (cnt p.2 ps = p.1.val + 1) && ps.all (fun q => decide (p.1 ≤ q.1)) && inOrder ps

theorem inOrder_steps : inOrder steps = true := by decide +kernel
theorem cnt_nil (l : Fin 4) : cnt l [] = 15 := rfl
theorem cnt_steps : ∀ l, cnt l steps = 0 := by decide +kernel
theorem cnt_other {l : Fin 4} {p : Fin 15 × Fin 4} {ps : List (Fin 15 × Fin 4)} (h : l ≠ p.2) : cnt l (p :: ps) = cnt l ps := by
  unfold cnt; rw [List.countP_cons_of_neg (by simpa using fun e => h e.symm)]

section Body

variable (K : Dev nD × CI → ℕ) (c : Dev nD)

/-- A device's turns with the steps `ps` left: the operands, the debts, and each lane's two send slots. -/
def mid (ps : List (Fin 15 × Fin 4)) : sProp 𝕄 :=
  iprop(ins m ρ c ∗ ow c (owe c ps) ∗ bigSep Finset.univ fun l => iprop(sl c l (cnt l ps) ∗ sl c l (cnt l ps + 1)))
/-- What a step takes besides, and what it gives. -/
def need (p : Fin 15 × Fin 4) : sProp 𝕄 := iprop(ld c p.2 p.1.val p.1.isLt.le ∗ tk c p.2 p.1)
def give (p : Fin 15 × Fin 4) : sProp 𝕄 := dn c p.2 p.1.val p.1.isLt.le

/-- One step from what is left to what is left after. -/
theorem wp_step {α : Type} {Q : α → sProp 𝕄} (p : Fin 15 × Fin 4) (ps : List (Fin 15 × Fin 4)) (h : inOrder (p :: ps) = true)
    {k : PUnit → KProg (F := F) α} :
    iprop(recs m ρ K ∗ levAts L lv ∗ mid m ρ c (p :: ps) ∗ need c p ∗ ((mid m ρ c ps ∗ give c p) -∗ WP c (k ⟨⟩) Q))
      ⊢ WP c (turn c p.1 p.2 >>= k) Q := by
  unfold inOrder at h
  rw [Bool.and_eq_true, Bool.and_eq_true, Bool.and_eq_true, List.all_eq_true, decide_eq_true_eq, decide_eq_true_eq] at h
  obtain ⟨⟨⟨h1, h2⟩, h3⟩, -⟩ := h
  have e : bigSep (Finset.univ.erase p.2) (fun l => (iprop(sl c l (cnt l (p :: ps)) ∗ sl c l (cnt l (p :: ps) + 1)) : sProp 𝕄))
      = bigSep (Finset.univ.erase p.2) fun l => iprop(sl c l (cnt l ps) ∗ sl c l (cnt l ps + 1)) :=
    bigSep_congr fun l hl => by rw [cnt_other (Finset.ne_of_mem_erase hl)]
  unfold mid need give
  rw [bigSep_at p.2, bigSep_at p.2, e, h1, h2]
  iintro ⟨#Hrec, #Hlev, ⟨Hin, HO, ⟨Hs0, Hs1⟩, Hrest⟩, ⟨Hld, Htk⟩, Hk⟩
  iapply (wp_turn m ρ K c p.2 p.1 ps (fun q hq => of_decide_eq_true (h3 q hq))) $$ [Hin HO Hs0 Hs1 Hrest Hld Htk Hk]
  isplitr; · iexact Hrec
  isplitr; · iexact Hlev
  isplitl [Hin]; · iexact Hin
  isplitl [HO]; · iexact HO
  isplitl [Hs0]; · iexact Hs0
  isplitl [Hld]; · iexact Hld
  isplitl [Htk]; · iexact Htk
  iintro ⟨Hin, HO, Hs2, Hdn⟩
  iapply Hk
  isplitr [Hdn]; swap; · iexact Hdn
  isplitl [Hin]; · iexact Hin
  isplitl [HO]; · iexact HO
  isplitr [Hrest]; swap; · iexact Hrest
  isplitl [Hs1]; · iexact Hs1
  iexact Hs2

/-- The turns of a list, one after another, then the rest. -/
theorem wp_list {Q : PUnit → sProp 𝕄} (rest : List (KProg (F := F) PUnit)) :
    ∀ ps : List (Fin 15 × Fin 4), inOrder ps = true →
    (iprop(recs m ρ K ∗ levAts L lv ∗ mid m ρ c ps ∗ all (need c) ps ∗ ((mid m ρ c [] ∗ all (give c) ps) -∗ WP c (seq rest) Q))
      ⊢ WP c (seq ((ps.map fun p => turn c p.1 p.2) ++ rest)) Q)
  | [], _ => by
    simp only [all, List.map_nil, List.nil_append]
    iintro ⟨-, -, Hm, -, Hk⟩
    iapply Hk
    isplitl [Hm]; · iexact Hm
    iempintro
  | p :: ps, h => by
    have h' : inOrder ps = true := by unfold inOrder at h; exact (Bool.and_eq_true _ _ ▸ h).2
    simp only [all, List.map_cons, List.cons_append, seq]
    iintro ⟨#Hrec, #Hlev, Hm, ⟨Hn, Hns⟩, Hk⟩
    iapply (wp_step m ρ K c p ps h) $$ [Hm Hn Hns Hk]
    isplitr; · iexact Hrec
    isplitr; · iexact Hlev
    isplitl [Hm]; · iexact Hm
    isplitl [Hn]; · iexact Hn
    iintro ⟨Hm, Hg⟩
    iapply (wp_list rest ps h') $$ [Hm Hns Hg Hk]
    isplitr; · iexact Hrec
    isplitr; · iexact Hlev
    isplitl [Hm]; · iexact Hm
    isplitl [Hns]; · iexact Hns
    iintro ⟨Hm, Hgs⟩
    iapply Hk
    isplitl [Hm]; · iexact Hm
    isplitl [Hg]; · iexact Hg
    iexact Hgs

/-! ## What the handshake brings, and what the turns start from -/

/-- All of a device's landing slots, and all the slots its copies land in. -/
def mine : sProp 𝕄 := bigSep Finset.univ fun l => bigSep Finset.univ fun t => recvAny c l t
def theirs : sProp 𝕄 := bigSep Finset.univ fun l => bigSep Finset.univ fun t => recvAny (nxt l c) l t

theorem lanes_pair (Φ : Fin 4 → sProp 𝕄) : bigSep Finset.univ Φ = iprop(bigSep (lanes true) Φ ∗ bigSep (lanes false) Φ) := by
  have h := BI.bigSep_union (s := lanes true) (t := lanes false) (by decide) (Φ := Φ)
  rw [show lanes true ∪ lanes false = Finset.univ by decide] at h
  exact h

/-- A device's landing slots are what it gives to its left neighbour and what it gives to its right neighbour. -/
theorem mine_eq : mine (F := F) c = iprop(barPay (lt c) true ∗ barPay (rt c) false) := by
  unfold mine barPay
  rw [lanes_pair]
  congr 1
  · exact bigSep_congr fun l hl => by rw [show nxt l (lt c) = c by unfold nxt; rw [if_pos (Finset.mem_filter.mp hl).2]; exact rt_lt c]
  · exact bigSep_congr fun l hl => by
      rw [show nxt l (rt c) = c by unfold nxt; rw [if_neg (by rw [(Finset.mem_filter.mp hl).2]; decide)]; exact lt_rt c]
theorem theirs_eq : theirs (F := F) c = iprop(barPay c true ∗ barPay c false) := by
  unfold theirs barPay
  rw [lanes_pair]

/-- The two duties of each copy. -/
def duties : sProp 𝕄 := bigSep Finset.univ fun l => bigSep Finset.univ fun t : Fin 15 =>
  iprop(dutyTok ER (sendCell c l (slot t)) (t.val / 2) false ∗ dutyTok ER (recvCell (nxt l c) l t) 0 false)
def creds : sProp 𝕄 := bigSep Finset.univ fun l => bigSep Finset.univ fun t => cred (tallyAt (recvCell c l t) () N)
def recvAt (r : ℕ) : sProp 𝕄 := bigSep Finset.univ fun l => bigSep Finset.univ fun t => atPos ER (recvCell c l t) r ∅ 0
def sendsAny : sProp 𝕄 := bigSep Finset.univ fun l => bigSep Finset.univ fun s => sendAny c l s

/-- All the steps' needs, and the last landings' besides. -/
theorem needs_intro : iprop(duties (F := F) c ∗ theirs c ∗ creds c ∗ recvAt c 0)
    ⊢ iprop(all (need c) steps ∗ bigSep Finset.univ fun l => ld c l 15 le_rfl) := by
  have h : ∀ l : Fin 4, (bigSep Finset.univ fun t : Fin 15 => (iprop(cred (tallyAt (recvCell c l t) () N) ∗ atPos ER (recvCell c l t) 0 ∅ 0) : sProp 𝕄))
      = iprop((bigSep Finset.univ fun t : Fin 15 => ld c l t.val t.isLt.le) ∗ ld c l 15 le_rfl) := fun l =>
    (emp_sep_eq _).symm.trans (bigSep_shift fun t : Fin 16 => ld c l t.val (Nat.le_of_lt_succ t.isLt))
  unfold duties theirs creds recvAt
  rw [show all (F := F) (need c) steps = _ from all_steps fun t l => need c (t, l)]
  unfold need tk
  simp only [bigSep_sep']
  simp only [bigSep_sep'] at h
  iintro ⟨⟨H1, H2⟩, H3, H4, H5⟩
  ihave H := (Entails.of_eq (bigSep_congr (s := Finset.univ) fun l _ => h l)) $$ [H4 H5]
  · simp only [bigSep_sep']
    isplitl [H4]; · iexact H4
    iexact H5
  simp only [bigSep_sep']
  icases H with ⟨H4, H5⟩
  isplitr [H5]; swap; · iexact H5
  isplitl [H4]; · iexact H4
  isplitl [H1]; · iexact H1
  isplitl [H2]; · iexact H2
  iexact H3

/-- After the steps and the last landings a device has its landing slots back. -/
theorem gives_elim : iprop(all (give c) steps ∗ bigSep Finset.univ fun l => dn c l 15 le_rfl) ⊢ iprop(mine (F := F) c ∗ recvAt c 1) := by
  have h : ∀ l : Fin 4, (bigSep Finset.univ fun t : Fin 15 => (iprop(recvAny c l t ∗ atPos ER (recvCell c l t) 1 ∅ 0) : sProp 𝕄))
      = iprop((bigSep Finset.univ fun t : Fin 15 => dn c l t.val t.isLt.le) ∗ dn c l 15 le_rfl) := fun l =>
    (emp_sep_eq _).symm.trans (bigSep_shift fun t : Fin 16 => dn c l t.val (Nat.le_of_lt_succ t.isLt))
  unfold mine recvAt
  rw [show all (F := F) (give c) steps = _ from all_steps fun t l => give c (t, l)]
  unfold give
  rw [← bigSep_sep', ← bigSep_sep', ← bigSep_congr (s := Finset.univ) fun l _ => h l]
  simp only [bigSep_sep']
  exact BI.Entails.refl _

/-- The send slots before the first step. -/
theorem slots_intro : iprop(sendsAny (F := F) c ∗ bigSep Finset.univ fun l => bigSep Finset.univ fun s => atPos ER (sendCell c l s) 0 ∅ 0)
    ⊢ bigSep Finset.univ fun l => iprop(sl c l (cnt l steps) ∗ sl c l (cnt l steps + 1)) := by
  unfold sendsAny
  rw [← bigSep_sep']
  refine bigSep_mono fun l _ => ?_
  rw [cnt_steps, bigSep_slots, bigSep_slots]
  show _ ⊢ iprop((sendAny c l 0 ∗ atPos ER (sendCell c l 0) 0 ∅ 0) ∗ (sendAny c l 1 ∗ atPos ER (sendCell c l 1) 0 ∅ 0))
  iintro ⟨⟨H1, H2⟩, H3, H4⟩
  isplitl [H1 H3]
  · isplitl [H1] <;> iassumption
  isplitl [H2] <;> iassumption

/-! ## The end -/

/-- The last round of a cell. -/
def lastRound : CI → ℕ
  | none => 1
  | some (.inl p) => rounds p.2
  | some (.inr _) => 1

theorem duties_done (i : CI) : ∀ r, lastRound i ≤ r → (ringRd (F := F) m ρ).duties (cell c i) r = ∅ := by
  match i with
  | none => exact duties_bar_later m ρ c
  | some (.inl p) => exact duties_send_later m ρ c p.1 p.2
  | some (.inr p) => exact duties_recv_later m ρ c p.1 p.2

/-- Every cell past its last round closes: its counter is at zero. -/
theorem close_all : iprop(recs m ρ K ∗ bigSep Finset.univ fun i => atPos ER (cell c i) (lastRound i) ∅ 0)
    ⊢ (|={Set.univ}=> bigSep Finset.univ fun i => semVal (cell c i) 0 : sProp 𝕄) :=
  (bigSep_with_persistent (R := recs m ρ K) (Ψ := fun i => iprop(|={Set.univ}=> semVal (cell c i) 0)) fun i _ => by
    iintro ⟨#Hrec, Hat⟩
    ihave ⟨#HI, #Hr⟩ := (recs_at m ρ K c i) $$ Hrec
    iapply (Rounds.cell_close ER (ringRd m ρ) (Set.mem_univ (K (c, i))) (fun h => h) (R := lastRound i) (duties_done m ρ c i))
    isplitr; · iexact HI
    iexact Hat).trans (bigSep_fupd _ _)

/-- The result of a device: each lane's last sums in the lane's columns, written in order over what was there. -/
def wr (f : (cc0_stg2_0 : Ref sig .tc).ty.Contents (Elt F)) : (cc0_stg2_0 : Ref sig .tc).ty.Contents (Elt F) :=
  (oM.access (colRect 3)).write (Elt F) ((oM.access (colRect 2)).write (Elt F) ((oM.access (colRect 1)).write (Elt F)
    ((oM.access (colRect 0)).write (Elt F) f (last m ρ 0 c) Finset.univ) (last m ρ 1 c) Finset.univ) (last m ρ 2 c) Finset.univ) (last m ρ 3 c) Finset.univ

/-- What a device starts the body with, and what it ends it with. -/
def pre : sProp 𝕄 :=
  iprop(levAts L lv ∗ (bigSep Finset.univ fun i => atPos ER (cell c i) 0 ∅ 0)
    ∗ dutyTok ER (barCell (lt c)) 0 true ∗ dutyTok ER (barCell (rt c)) 0 false ∗ duties c
    ∗ cred (tallyAt (barCell c) () 2) ∗ creds c ∗ sendsAny c ∗ mine c)
def post : sProp 𝕄 :=
  iprop((bigSep Finset.univ fun i => semVal (cell c i) 0) ∗ sendsAny c ∗ mine c)

/-- The lanes' last sums and last waits, in order. -/
theorem wp_tail (f : Buf (Elt F) (oM.view.loc (c : Thread nD τ))) {Q : PUnit → sProp 𝕄} :
    iprop(recs m ρ K ∗ levAts L lv ∗ ins m ρ c ∗ ow c 0 ∗ (bigSep Finset.univ fun l => ld c l 15 le_rfl)
        ∗ (bigSep Finset.univ fun l => iprop(sl c l 15 ∗ sl c l 16)) ∗ ((oM.view.loc (c : Thread nD τ)) ↦{fullShare} f)
        ∗ ((ins m ρ c ∗ ow c 0 ∗ (bigSep Finset.univ fun l => dn c l 15 le_rfl) ∗ (bigSep Finset.univ fun l => bigSep Finset.univ fun s => fin c l s)
            ∗ ((oM.view.loc (c : Thread nD τ)) ↦{fullShare} wr m ρ c f)) -∗ WP c (pure ⟨⟩) Q))
      ⊢ WP c (seq ((List.finRange 4).map (finish c) ++ (List.finRange 4).map settle)) Q := by
  rw [show List.finRange 4 = [0, 1, 2, 3] from by decide]
  simp only [bigSep_lanes, bigSep_slots, List.map_cons, List.map_nil, List.cons_append, List.nil_append, seq]
  unfold wr
  iintro ⟨#Hrec, #Hlev, Hin, HO, ⟨L0, L1, L2, L3⟩, ⟨⟨S0, T0⟩, ⟨S1, T1⟩, ⟨S2, T2⟩, ⟨S3, T3⟩⟩, Hout, Hk⟩
  iapply (wp_finish m ρ K c 0 _) $$ [-]
  isplitr; · iexact Hrec
  isplitr; · iexact Hlev
  isplitl [Hin]; · iexact Hin
  isplitl [HO]; · iexact HO
  isplitl [L0]; · iexact L0
  isplitl [Hout]; · iexact Hout
  iintro ⟨Hin, HO, L0, Hout⟩
  iapply (wp_finish m ρ K c 1 _) $$ [-]
  isplitr; · iexact Hrec
  isplitr; · iexact Hlev
  isplitl [Hin]; · iexact Hin
  isplitl [HO]; · iexact HO
  isplitl [L1]; · iexact L1
  isplitl [Hout]; · iexact Hout
  iintro ⟨Hin, HO, L1, Hout⟩
  iapply (wp_finish m ρ K c 2 _) $$ [-]
  isplitr; · iexact Hrec
  isplitr; · iexact Hlev
  isplitl [Hin]; · iexact Hin
  isplitl [HO]; · iexact HO
  isplitl [L2]; · iexact L2
  isplitl [Hout]; · iexact Hout
  iintro ⟨Hin, HO, L2, Hout⟩
  iapply (wp_finish m ρ K c 3 _) $$ [-]
  isplitr; · iexact Hrec
  isplitr; · iexact Hlev
  isplitl [Hin]; · iexact Hin
  isplitl [HO]; · iexact HO
  isplitl [L3]; · iexact L3
  isplitl [Hout]; · iexact Hout
  iintro ⟨Hin, HO, L3, Hout⟩
  iapply (wp_settle m ρ K c 0) $$ [-]
  isplitr; · iexact Hrec
  isplitr; · iexact Hlev
  isplitl [HO]; · iexact HO
  isplitl [S0]; · iexact S0
  isplitl [T0]; · iexact T0
  iintro ⟨HO, S0, T0⟩
  iapply (wp_settle m ρ K c 1) $$ [-]
  isplitr; · iexact Hrec
  isplitr; · iexact Hlev
  isplitl [HO]; · iexact HO
  isplitl [S1]; · iexact S1
  isplitl [T1]; · iexact T1
  iintro ⟨HO, S1, T1⟩
  iapply (wp_settle m ρ K c 2) $$ [-]
  isplitr; · iexact Hrec
  isplitr; · iexact Hlev
  isplitl [HO]; · iexact HO
  isplitl [S2]; · iexact S2
  isplitl [T2]; · iexact T2
  iintro ⟨HO, S2, T2⟩
  iapply (wp_settle m ρ K c 3) $$ [-]
  isplitr; · iexact Hrec
  isplitr; · iexact Hlev
  isplitl [HO]; · iexact HO
  isplitl [S3]; · iexact S3
  isplitl [T3]; · iexact T3
  iintro ⟨HO, S3, T3⟩
  iapply Hk
  isplitl [Hin]; · iexact Hin
  isplitl [HO]; · iexact HO
  isplitl [L0 L1 L2 L3]
  · isplitl [L0]; · iexact L0
    isplitl [L1]; · iexact L1
    isplitl [L2] <;> iassumption
  isplitr [Hout]; swap; · iexact Hout
  isplitl [S0 T0]
  · isplitl [T0] <;> iassumption
  isplitl [S1 T1]
  · isplitl [T1] <;> iassumption
  isplitl [S2 T2]
  · isplitl [T2] <;> iassumption
  isplitl [T3] <;> iassumption

theorem turns_eq : turns (F := F) c = steps.map fun p => turn c p.1 p.2 := by
  unfold turns steps
  rw [List.map_flatMap]
  simp only [List.map_map]
  rfl

/-- The body, from a device's start to its result in place and its counters at zero. -/
theorem sound_body (f : Buf (Elt F) (oM.view.loc (c : Thread nD τ))) {Q : PUnit → sProp 𝕄} :
    iprop(recs m ρ K ∗ pre c ∗ ow c (O₀ c) ∗ ins m ρ c ∗ ((oM.view.loc (c : Thread nD τ)) ↦{fullShare} f)
        ∗ ((post c ∗ ow c 0 ∗ ins m ρ c ∗ ((oM.view.loc (c : Thread nD τ)) ↦{fullShare} wr m ρ c f)) -∗ Q ⟨⟩))
      ⊢ WP c (body (F := F)) Q := by
  unfold body
  simp only [semSignalWord, semWaitWord, Prog.lift, Prog.bind_op, Prog.bind_ret, Prog.pure_eq_ret, wp_deviceId]
  unfold pre
  rw [bigSep_cells, mine_eq, dev1_eq, dev2_eq, turns_eq]
  iintro ⟨#Hrec, ⟨#Hlev, ⟨HatB, HatS, HatR⟩, HtL, HtR, Hdut, HcB, Hcr, Hsend, Hl, Hr⟩, HO, Hin, Hout, Hk⟩
  ihave ⟨#HIL, #HrL⟩ := (recs_at m ρ K (lt c) none) $$ Hrec
  ihave ⟨#HIR, #HrR⟩ := (recs_at m ρ K (rt c) none) $$ Hrec
  ihave ⟨#HIB, #HrB⟩ := (recs_at m ρ K c none) $$ Hrec
  unfold ow
  icases HO with ⟨%W, HO⟩
  -- the signal to the left, with the slots it copies to
  iapply (Rounds.wp_signal 𝒱₀ ER (ringRd m ρ) (c : Thread nD τ) none (dst := (lt c : Thread nD τ)) (κ := K (lt c, none))
      (d := true) (by rw [duties_bar]; exact Finset.mem_univ _) ((amount_bar m ρ (lt c) 0 true).trans (by decide)) () (O₁ c) rfl)
    $$ [HO HtL Hl]
  · isplitr; · iexact HIL
    isplitl [HO]; · iexact HO
    isplitl [HtL]; · iexact HtL
    isplitl [Hl]; · rw [payload_bar]; iexact Hl
    iexact HrL
  iintro HO
  -- the signal to the right, likewise
  unfold O₁
  iapply (Rounds.wp_signal 𝒱₀ ER (ringRd m ρ) (c : Thread nD τ) none (dst := (rt c : Thread nD τ)) (κ := K (rt c, none))
      (d := false) (by rw [duties_bar]; exact Finset.mem_univ _) ((amount_bar m ρ (rt c) 0 false).trans (by decide)) () (owe c steps) rfl)
    $$ [HO HtR Hr]
  · isplitr; · iexact HIR
    isplitl [HO]; · iexact HO
    isplitl [HtR]; · iexact HtR
    isplitl [Hr]; · rw [payload_bar]; iexact Hr
    iexact HrR
  iintro HO
  -- the wait for both neighbours' signals
  iapply (Rounds.wp_wait_rest_token 𝒱₀ ER (ringRd m ρ) (c : Thread nD τ) none (κ := K (c, none))
      (wpE_semWait_eq 𝒱₀ (c : Thread nD τ) none Set.univ) (Set.mem_univ _) () (O := owe c steps) (W := W) (R := 0) (m := 0) (T := ∅)
      (by rw [expect_bar]; decide)) $$ [HcB HO HatB]
  · isplitr; · iexact HIB
    isplitl [HcB]; · iexact HcB
    isplitl [HO]; · iexact HO
    isplitr
    · iapply (mayWait_owe c (.reg barS) steps (fun p _ => by rw [lv_bar]; omega)); iexact Hlev
    iexact HatB
  iintro ⟨HO, HatB, -, Hpay⟩
  ihave Hp := (Entails.of_eq (rest_bar m ρ c)) $$ Hpay
  icases Hp with ⟨Hp1, Hp2⟩
  ihave Hth := (Entails.of_eq (theirs_eq c).symm) $$ [Hp1 Hp2]
  · isplitl [Hp2] <;> iassumption
  ihave Hneed := (needs_intro c) $$ [Hdut Hth Hcr HatR]
  · isplitl [Hdut]; · iexact Hdut
    isplitl [Hth]; · iexact Hth
    isplitl [Hcr]; · iexact Hcr
    unfold recvAt; iexact HatR
  icases Hneed with ⟨Hneed, Hld⟩
  ihave Hsl := (slots_intro c) $$ [Hsend HatS]
  · isplitl [Hsend]; · iexact Hsend
    iexact HatS
  iapply (wp_list m ρ K c _ steps inOrder_steps) $$ [-]
  isplitr; · iexact Hrec
  isplitr; · iexact Hlev
  isplitl [Hin HO Hsl]
  · unfold mid
    isplitl [Hin]; · iexact Hin
    isplitl [HO]; · unfold ow; iexists _; iexact HO
    iexact Hsl
  isplitl [Hneed]; · iexact Hneed
  unfold mid
  iintro ⟨⟨Hin, HO, Hsl⟩, Hg⟩
  iapply (wp_tail m ρ K c f) $$ [-]
  isplitr; · iexact Hrec
  isplitr; · iexact Hlev
  isplitl [Hin]; · iexact Hin
  isplitl [HO]; · iexact HO
  isplitl [Hld]; · iexact Hld
  isplitl [Hsl]; · iexact Hsl
  isplitl [Hout]; · iexact Hout
  iintro ⟨Hin, HO, Hdn, Hfin, Hout⟩
  ihave Hm := (gives_elim c) $$ [Hg Hdn]
  · isplitl [Hg] <;> iassumption
  icases Hm with ⟨Hm, HatR⟩
  unfold fin
  simp only [bigSep_sep']
  icases Hfin with ⟨Hsend, HatS⟩
  imod (close_all m ρ K c) $$ [HatB HatS HatR] with Hz
  · rw [bigSep_cells]
    isplitr; · iexact Hrec
    isplitl [HatB]; · iexact HatB
    isplitl [HatS]; · iexact HatS
    unfold recvAt; iexact HatR
  rw [Prog.pure_eq_ret, wp_ret]
  imodintro
  iapply Hk
  isplitr [HO Hin Hout]
  · unfold post sendsAny
    isplitl [Hz]; · iexact Hz
    isplitl [Hsend] <;> iassumption
  isplitl [HO]; · unfold ow; iexact HO
  isplitl [Hin] <;> iassumption

end Body

end Cert.KernelIdeal.Ring

end
-- ==== Proof.OutIdeal.lean ====
/-
# The buffers of the kernel as the lanes cut them

The result is written in four parts, a lane's columns each: an entry in a lane's columns holds that lane's last sum,
whatever was there before (`wr_lane`, `wr_irrel`). A lane's send buffer is its two slots and its landing buffer its
fifteen (`sends_cut`, `recvs_cut` and back).
-/
module

public import proofs.«01_k».proof.Proof.BodyIdeal
public import Idealize.ShloMosaic.Lib.Ring.FamCut
public import Idealize.ShloMosaic.Lib.Pipeline.ValueKit.Geometry

@[expose] public section

set_option maxRecDepth 100000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result, lane by lane -/

abbrev OutC (F : FTy → Type) : Type := (cc0_stg2_0 : Ref sig .tc).ty.Contents (Elt F)

/-- The place in the result of an entry of a lane's block. -/
abbrev outIx (l : Fin 4) (x : S256x512.Idx) : S256x2048.Idx := (colRect l).emb x

theorem outIx_row (l : Fin 4) (x : S256x512.Idx) : (outIx l x 0).val = (x 0).val := by
  rw [outIx, ValueKit.rect_emb_unit_val]; exact Nat.zero_add _
theorem outIx_col (l : Fin 4) (x : S256x512.Idx) : (outIx l x 1).val = col l + (x 1).val := by
  rw [outIx, ValueKit.rect_emb_unit_val]; rfl

theorem col_apart : ∀ k l : Fin 4, k ≠ l → col k + 512 ≤ col l ∨ col l + 512 ≤ col k := by decide

theorem col_not_mem {k l : Fin 4} (h : k ≠ l) (x : S256x512.Idx) : outIx l x ∉ (colRect k).set := by
  rw [Rect.mem_set_unit]
  intro hm
  have h1 := hm 1
  rw [outIx_col] at h1
  have h2 : (x 1).val < 512 := (x 1).isLt
  have h3 : col k ≤ col l + (x 1).val ∧ col l + (x 1).val < col k + 512 := h1
  rcases col_apart k l h with h4 | h4 <;> omega

/-- Every entry of the result is in some lane's block. -/
theorem outIx_cover (i : S256x2048.Idx) : ∃ l x, outIx l x = i := by
  have hi1 : (i 1).val < 2048 := (i 1).isLt
  have hl : ∃ l : Fin 4, col l ≤ (i 1).val ∧ (i 1).val < col l + 512 := by
    by_cases h1 : (i 1).val < 512
    · exact ⟨0, Nat.zero_le _, by show _ < 0 + 512; omega⟩
    by_cases h2 : (i 1).val < 1024
    · exact ⟨2, by show 512 ≤ _; omega, by show _ < 512 + 512; omega⟩
    by_cases h3 : (i 1).val < 1536
    · exact ⟨1, by show 1024 ≤ _; omega, by show _ < 1024 + 512; omega⟩
    · exact ⟨3, by show 1536 ≤ _; omega, by show _ < 1536 + 512; omega⟩
  obtain ⟨l, h1, h2⟩ := hl
  have hm : i ∈ (colRect l).set := by
    rw [Rect.mem_set_unit]
    intro a
    match a with
    | 0 => exact ⟨Nat.zero_le _, by show _ < 0 + 256; have : (i 0).val < 256 := (i 0).isLt; omega⟩
    | 1 => exact ⟨h1, h2⟩
  rw [← Rect.map_emb_univ] at hm
  obtain ⟨x, -, hx⟩ := Finset.mem_map.mp hm
  exact ⟨l, x, hx⟩

/-- A lane's block written over a result. -/
abbrev put (l : Fin 4) (f : OutC F) (v : FVec F S256x512 .f32) : OutC F := (oM.access (colRect l)).write (Elt F) f v Finset.univ

theorem put_same (l : Fin 4) (f : OutC F) (v : FVec F S256x512 .f32) (x : S256x512.Idx) : put l f v (outIx l x) = v x :=
  View.write_emb_of_mem (v := oM.access (colRect l)) (Val := Elt F) f v (Finset.mem_univ x)
theorem put_other {k l : Fin 4} (h : k ≠ l) (f : OutC F) (v : FVec F S256x512 .f32) (x : S256x512.Idx) :
    put k f v (outIx l x) = f (outIx l x) :=
  View.write_of_not_mem (v := oM.access (colRect k)) (Val := Elt F) f v Finset.univ (by
    show outIx l x ∉ ((View.whole cc0_stg2_0).slice (colRect k)).set
    rw [View.set_slice_whole]; exact col_not_mem h x)

/-- An entry in a lane's block holds the lane's last sum. -/
theorem wr_lane (c : Dev nD) (f : OutC F) (l : Fin 4) (x : S256x512.Idx) : wr m ρ c f (outIx l x) = last m ρ l c x := by
  show put 3 (put 2 (put 1 (put 0 f (last m ρ 0 c)) (last m ρ 1 c)) (last m ρ 2 c)) (last m ρ 3 c) (outIx l x) = _
  match l with
  | 0 => rw [put_other (by decide), put_other (by decide), put_other (by decide), put_same]
  | 1 => rw [put_other (by decide), put_other (by decide), put_same]
  | 2 => rw [put_other (by decide), put_same]
  | 3 => rw [put_same]

/-- What was in the result before the writes does not matter. -/
theorem wr_irrel (c : Dev nD) (f g : OutC F) : wr m ρ c f = wr m ρ c g := by
  funext i
  obtain ⟨l, x, rfl⟩ := outIx_cover i
  rw [wr_lane, wr_lane]

/-- A device's result. -/
def outAt (c : Dev nD) : OutC F := wr m ρ c fun _ => (Scalar.ofBits .f32 0x00000000#32 : F .f32)

/-! ## A buffer as its slots -/

section Cut
variable {B : Type} [Fintype B] [DecidableEq B] {ℓ : Loc nD τ sig} (I : B → Finset (Idx ℓ))
  (hd : ∀ b b', b ≠ b' → Disjoint (I b) (I b')) (hc : ∀ i, ∃ b, i ∈ I b)

include hc in
theorem rest_none : Ring.restOf I = ∅ := by
  refine Finset.sdiff_eq_empty_iff_subset.mpr fun i _ => ?_
  obtain ⟨b, hb⟩ := hc i
  exact Finset.mem_biUnion.mpr ⟨b, Finset.mem_univ b, hb⟩

include hd in
/-- A buffer at any contents is its slots at any contents, -/
theorem cut : (iprop(∃ f, ℓ ↦{fullShare} f) : sProp 𝕄) ⊢ bigSep Finset.univ fun b => iprop(∃ f, ℓ ↦[I b]{fullShare} f) :=
  (Ring.fam_split_ex I hd).trans sep_elim_left

include hd hc in
/-- and back. -/
theorem uncut (f₀ : Buf (Elt F) ℓ) : (bigSep Finset.univ fun b => iprop(∃ f, ℓ ↦[I b]{fullShare} f)) ⊢ (iprop(∃ f, ℓ ↦{fullShare} f) : sProp 𝕄) := by
  refine BIBase.Entails.trans ?_ (Ring.fam_join I hd f₀)
  iintro H
  isplitl; · iexact H
  iexists f₀
  rw [rest_none I hc, pointsTo_empty]
  iempintro

end Cut

theorem send_apart {s s' : Fin 2} (h : s ≠ s') : Disjoint (sendRect s).set (sendRect s').set := by
  refine Finset.disjoint_left.mpr fun i h1 h2 => h (Fin.ext ?_)
  have a1 : s.val ≤ (i 0).val ∧ (i 0).val < s.val + 1 := (Rect.mem_set_unit.mp h1) 0
  have a2 : s'.val ≤ (i 0).val ∧ (i 0).val < s'.val + 1 := (Rect.mem_set_unit.mp h2) 0
  omega
theorem recv_apart {t t' : Fin 15} (h : t ≠ t') : Disjoint (recvRect t).set (recvRect t').set := by
  refine Finset.disjoint_left.mpr fun i h1 h2 => h (Fin.ext ?_)
  have a1 : t.val ≤ (i 0).val ∧ (i 0).val < t.val + 1 := (Rect.mem_set_unit.mp h1) 0
  have a2 : t'.val ≤ (i 0).val ∧ (i 0).val < t'.val + 1 := (Rect.mem_set_unit.mp h2) 0
  omega
theorem send_cover (x : S2x256x512.Idx) : x ∈ (sendRect (x 0)).set := by
  rw [Rect.mem_set_unit]
  intro a
  match a with
  | 0 => exact ⟨le_rfl, Nat.lt_succ_self _⟩
  | 1 => exact ⟨Nat.zero_le _, by show _ < 0 + 256; have : (x 1).val < 256 := (x 1).isLt; omega⟩
  | 2 => exact ⟨Nat.zero_le _, by show _ < 0 + 512; have : (x 2).val < 512 := (x 2).isLt; omega⟩
theorem recv_cover (x : S15x256x512.Idx) : x ∈ (recvRect (x 0)).set := by
  rw [Rect.mem_set_unit]
  intro a
  match a with
  | 0 => exact ⟨le_rfl, Nat.lt_succ_self _⟩
  | 1 => exact ⟨Nat.zero_le _, by show _ < 0 + 256; have : (x 1).val < 256 := (x 1).isLt; omega⟩
  | 2 => exact ⟨Nat.zero_le _, by show _ < 0 + 512; have : (x 2).val < 512 := (x 2).isLt; omega⟩

theorem send_slot (l : Fin 4) (s : Fin 2) : (sendV l s).view.set = (sendRect s).set.map (sendM l).view.emb :=
  (View.set_reshape _ _).trans (View.set_slice _ _)
theorem recv_slot (l : Fin 4) (t : Fin 15) : (recvV l t).view.set = (recvRect t).set.map (recvM l).view.emb :=
  (View.set_reshape _ _).trans (View.set_slice _ _)

section Slots
variable (c : Dev nD) (l : Fin 4)

abbrev sendI (s : Fin 2) : Finset (Idx ((sendM l).view.loc (c : Thread nD τ))) := (sendV l s).view.set
abbrev recvI (t : Fin 15) : Finset (Idx ((recvM l).view.loc (c : Thread nD τ))) := (recvV l t).view.set

theorem sendI_apart (s s' : Fin 2) (h : s ≠ s') : Disjoint (sendI c l s) (sendI c l s') := by
  show Disjoint (sendV l s).view.set (sendV l s').view.set
  rw [send_slot, send_slot]; exact (Finset.disjoint_map _).mpr (send_apart h)
theorem recvI_apart (t t' : Fin 15) (h : t ≠ t') : Disjoint (recvI c l t) (recvI c l t') := by
  show Disjoint (recvV l t).view.set (recvV l t').view.set
  rw [recv_slot, recv_slot]; exact (Finset.disjoint_map _).mpr (recv_apart h)
theorem sendI_cover (i : Idx ((sendM l).view.loc (c : Thread nD τ))) : ∃ s, i ∈ sendI c l s := by
  have h : i ∈ (sendM l).view.set := by rw [(sendM_whole l).set_eq_univ]; exact Finset.mem_univ _
  obtain ⟨x, -, rfl⟩ := Finset.mem_map.mp h
  exact ⟨x 0, (Finset.ext_iff.mp (send_slot l (x 0)) _).mpr (Finset.mem_map_of_mem _ (send_cover x))⟩
theorem recvI_cover (i : Idx ((recvM l).view.loc (c : Thread nD τ))) : ∃ t, i ∈ recvI c l t := by
  have h : i ∈ (recvM l).view.set := by rw [(recvM_whole l).set_eq_univ]; exact Finset.mem_univ _
  obtain ⟨x, -, rfl⟩ := Finset.mem_map.mp h
  exact ⟨x 0, (Finset.ext_iff.mp (recv_slot l (x 0)) _).mpr (Finset.mem_map_of_mem _ (recv_cover x))⟩

/-- A lane's send buffer, and its landing buffer, at any contents. -/
def sendBuf : sProp 𝕄 := iprop(∃ f, (sendM l).view.loc (c : Thread nD τ) ↦{fullShare} f)
def recvBuf : sProp 𝕄 := iprop(∃ f, (recvM l).view.loc (c : Thread nD τ) ↦{fullShare} f)

theorem sends_cut : sendBuf (F := F) c l ⊢ bigSep Finset.univ fun s => sendAny c l s := cut (sendI c l) (sendI_apart c l)
theorem recvs_cut : recvBuf (F := F) c l ⊢ bigSep Finset.univ fun t => recvAny c l t := cut (recvI c l) (recvI_apart c l)

/-- Some contents of a lane's buffers. -/
def sendZero : Buf (Elt F) ((sendM l).view.loc (c : Thread nD τ)) :=
  match l with
  | 0 | 1 | 2 | 3 => fun _ => (Scalar.ofBits .bf16 0x0000#16 : F .bf16)
def recvZero : Buf (Elt F) ((recvM l).view.loc (c : Thread nD τ)) :=
  match l with
  | 0 | 1 | 2 | 3 => fun _ => (Scalar.ofBits .bf16 0x0000#16 : F .bf16)

theorem sends_uncut : (bigSep Finset.univ fun s => sendAny c l s) ⊢ sendBuf (F := F) c l :=
  uncut (sendI c l) (sendI_apart c l) (sendI_cover c l) (sendZero c l)
theorem recvs_uncut : (bigSep Finset.univ fun t => recvAny c l t) ⊢ recvBuf (F := F) c l :=
  uncut (recvI c l) (recvI_apart c l) (recvI_cover c l) (recvZero c l)

end Slots

theorem each {Φ Ψ : Fin 4 → sProp 𝕄} (h : ∀ l, Φ l ⊢ Ψ l) : bigSep Finset.univ Φ ⊢ bigSep Finset.univ Ψ := bigSep_mono fun l _ => h l

/-- The launch's scratch buffers are the lanes' send and landing buffers, -/
theorem scratch_eq (c : Dev nD) :
    (Pipeline.scopedRest (Ix := Unit) (Name := ℕ) (U := UU) (Lvl := ℕ) (Val := Elt F) cfg0.spec c : sProp 𝕄)
      = iprop(sendBuf c 0 ∗ sendBuf c 2 ∗ sendBuf c 1 ∗ sendBuf c 3 ∗ recvBuf c 0 ∗ recvBuf c 2 ∗ recvBuf c 1 ∗ recvBuf c 3) := scopedRest0_eq c

/-- so all the slots, -/
theorem scratch_cut (c : Dev nD) :
    (Pipeline.scopedRest (Ix := Unit) (Name := ℕ) (U := UU) (Lvl := ℕ) (Val := Elt F) cfg0.spec c : sProp 𝕄) ⊢ iprop(sendsAny c ∗ mine c) := by
  have hs := each fun l => sends_cut (F := F) c l
  have hr := each fun l => recvs_cut (F := F) c l
  rw [bigSep_lanes] at hs hr
  rw [scratch_eq]
  unfold sendsAny mine
  iintro ⟨H0, H1, H2, H3, H4, H5, H6, H7⟩
  isplitl [H0 H1 H2 H3]
  · iapply hs
    isplitl [H0]; · iexact H0
    isplitl [H2]; · iexact H2
    isplitl [H1]; · iexact H1
    iexact H3
  iapply hr
  isplitl [H4]; · iexact H4
  isplitl [H6]; · iexact H6
  isplitl [H5]; · iexact H5
  iexact H7

/-- and back. -/
theorem scratch_uncut (c : Dev nD) :
    iprop(sendsAny c ∗ mine c) ⊢ (Pipeline.scopedRest (Ix := Unit) (Name := ℕ) (U := UU) (Lvl := ℕ) (Val := Elt F) cfg0.spec c : sProp 𝕄) := by
  have hs := each fun l => sends_uncut (F := F) c l
  have hr := each fun l => recvs_uncut (F := F) c l
  rw [bigSep_lanes (fun l => sendBuf c l)] at hs
  rw [bigSep_lanes (fun l => recvBuf c l)] at hr
  rw [scratch_eq]
  unfold sendsAny mine
  iintro ⟨Hs, Hr⟩
  ihave ⟨H0, H2, H1, H3⟩ := hs $$ Hs
  ihave ⟨H4, H6, H5, H7⟩ := hr $$ Hr
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Ring

end
-- ==== Proof.LaunchIdeal.lean ====
/-
# The launch of the kernel

What the launch gives a device is what its body starts from: the cells' invariants, allocated for all devices at once, the
tokens dealt around the ring to the devices that pay the duties, the credit every device has at launch. So every run of
the sixteen devices ends, the counters back at zero (`run_main`).
-/
module

public import proofs.«01_k».proof.Proof.OutIdeal
public import Idealize.ShloMosaic.Lib.Quiescent
public import Idealize.ShloMosaic.Lib.Pipeline.CollectiveSegs

@[expose] public section

set_option maxRecDepth 100000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

/-- What a device's body starts from, and ends at. -/
def Φ₀ (c : Dev nD) : sProp 𝕄 := iprop((∃ K, recs m ρ K) ∗ pre c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => post c
  q _ := fullShare
  owed t := match t with
    | ⟨0, _⟩ => O₀ c
    | ⟨_ + 1, _⟩ => 0

/-- A staging buffer held whole. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

abbrev t₀ : Fin cfg0.N := ⟨0, by decide⟩

/-- The windows' arrays before the body: the fetched operands. -/
theorem before_x (c : Dev nD) (d) : (dats (F := F) m ρ 0 c).before (0 : Fin 3) t₀ d = xstg m ρ c := by
  unfold Dat.before; rw [if_pos (fetch0_0 t₀)]; rfl
theorem before_w (c : Dev nD) (d) : (dats (F := F) m ρ 0 c).before (1 : Fin 3) t₀ d = wstg m ρ c := by
  unfold Dat.before; rw [if_pos (fetch0_1 t₀)]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(post c ∗ (dats m ρ 0 c).owesAt () t₀.succ ∗ stg c cc0_stg0_0 (xstg m ρ c) ∗ stg c cc0_stg1_0 (wstg m ρ c) ∗ stg c cc0_stg2_0 (outAt m ρ c))

/-- The body from the launch's terms to the launch's terms. -/
theorem body_launch (c : Dev nD) : bodyPre (F := F) m ρ c ⊢ WP c (body (F := F)) fun _ => bodyPost m ρ c := by
  unfold bodyPre Φ₀ Dat.owesAt Pipeline.owesWithin
  iintro ⟨⟨⟨%K, Hrec⟩, Hpre⟩, ⟨%W, -, HO⟩, ⟨%d0, Hx⟩, ⟨%d1, Hw⟩, ⟨%d2, Hout⟩⟩
  rw [before_x, before_w]
  unfold stg
  icases Hx with ⟨%f0, %e0, Hx⟩
  icases Hw with ⟨%f1, %e1, Hw⟩
  icases Hout with ⟨%f2, %e2, Hout⟩
  subst e0 e1
  iapply (sound_body m ρ K c f2) $$ [-]
  isplitl [Hrec]; · iexact Hrec
  isplitl [Hpre]; · iexact Hpre
  isplitl [HO]; · unfold ow; iexists W; iexact HO
  isplitl [Hx Hw]
  · unfold ins; isplitl [Hx] <;> iassumption
  isplitl [Hout]; · iexact Hout
  unfold ow ins
  iintro ⟨Hpost, ⟨%W', HO⟩, ⟨Hx, Hw⟩, Hout⟩
  unfold bodyPost Dat.owesAt Pipeline.owesWithin stg
  isplitl [Hpost]; · iexact Hpost
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; exact wr_irrel m ρ c f2 _)
  iexact Hout

theorem body_obligation (c : Dev nD) : BodyObligation (dats (F := F) m ρ 0 c) (defs₀ (F := F)) 𝒱₀ () Set.univ := fun t => by
  rw [show t = t₀ from fin_N0 t]
  rw [bigSep_W0, bigSep_W0]
  simp only [owns_stg]
  show bodyPre m ρ c ⊢ WP c (bodyAt0 (F := F) t₀) fun _ => bodyPost m ρ c
  rw [body_eq]
  exact body_launch m ρ c

/-! ## The cells and their tokens -/

theorem ownSemFacts : Pipeline.OwnSemFacts cfg0.spec osem := by decide +kernel

theorem share_eq (c : Dev nD) (w : Fin cfg0.W) : (dats m ρ 0 c).share w = fullShare := by unfold Dat.share; split <;> rfl

abbrev kcell (p : Dev nD × CI) : GSem nD τ sig := cell p.1 p.2
theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]
def ringCells : Finset (GSem nD τ sig) := Finset.univ.map ⟨kcell, kcell_inj⟩

/-- A device's own duties: its barrier's two, and per lane and step one of a send cell and one of a landing cell. -/
abbrev TI : Type := Bool ⊕ ((Fin 4 × Fin 15) ⊕ (Fin 4 × Fin 15))
def duty : TI → CI × ℕ × Bool
  | .inl b => (none, 0, b)
  | .inr (.inl p) => (some (.inl (p.1, slot p.2)), p.2.val / 2, false)
  | .inr (.inr p) => (some (.inr p), 0, false)
theorem duty_inj : Function.Injective duty := by
  rintro (a | a | a) (b | b | b) h
  · exact congrArg Sum.inl (Prod.mk.inj (Prod.mk.inj h).2).2
  · cases (Prod.mk.inj h).1
  · cases (Prod.mk.inj h).1
  · cases (Prod.mk.inj h).1
  · have h1 := Prod.mk.inj (Sum.inl_injective (Option.some_injective _ (Prod.mk.inj h).1))
    have h2 : a.2.val % 2 = b.2.val % 2 := congrArg Fin.val h1.2
    have h3 : a.2.val / 2 = b.2.val / 2 := (Prod.mk.inj (Prod.mk.inj h).2).1
    exact congrArg _ (congrArg _ (Prod.ext h1.1 (Fin.ext (by omega))))
  · cases Option.some_injective _ (Prod.mk.inj h).1
  · cases (Prod.mk.inj h).1
  · cases Option.some_injective _ (Prod.mk.inj h).1
  · exact congrArg _ (congrArg _ (Sum.inr_injective (Option.some_injective _ (Prod.mk.inj h).1)))
abbrev tokOf (p : Dev nD × TI) : GSem nD τ sig × ℕ × Bool := (cell p.1 (duty p.2).1, (duty p.2).2.1, (duty p.2).2.2)
theorem tokOf_inj : Function.Injective tokOf := by
  rintro ⟨c, j⟩ ⟨c', j'⟩ h
  have h0 := Prod.mk.inj h
  have h1 := kcell_inj (a₁ := (c, (duty j).1)) (a₂ := (c', (duty j').1)) h0.1
  have h2 : duty j = duty j' := Prod.ext (Prod.mk.inj h1).2 h0.2
  rw [(Prod.mk.inj h1).1, duty_inj h2]
def ringToks : Finset (GSem nD τ sig × ℕ × Bool) := Finset.univ.map ⟨tokOf, tokOf_inj⟩

def u₀ : UU :=
  (initOf (Pipeline.cells cfgs cellOf_inj) (Pipeline.launchToks cfgs cellOf_inj), initOf ringCells ringToks)

/-- The duties' tokens of a device's own cells, -/
def toks (c : Dev nD) : sProp 𝕄 :=
  iprop(dutyTok ER (barCell c) 0 true ∗ dutyTok ER (barCell c) 0 false
    ∗ (bigSep Finset.univ fun l => bigSep Finset.univ fun t : Fin 15 => dutyTok ER (sendCell c l (slot t)) (t.val / 2) false)
    ∗ (bigSep Finset.univ fun l => bigSep Finset.univ fun t : Fin 15 => dutyTok ER (recvCell c l t) 0 false))
/-- and of the duties it pays. -/
def pays (c : Dev nD) : sProp 𝕄 :=
  iprop(dutyTok ER (barCell (lt c)) 0 true ∗ dutyTok ER (barCell (rt c)) 0 false ∗ duties c)

theorem bigSep_duties (Φ : TI → sProp 𝕄) : bigSep Finset.univ Φ = iprop((Φ (.inl true) ∗ Φ (.inl false))
      ∗ (bigSep Finset.univ fun l => bigSep Finset.univ fun t => Φ (.inr (.inl (l, t))))
      ∗ (bigSep Finset.univ fun l => bigSep Finset.univ fun t => Φ (.inr (.inr (l, t))))) := by
  rw [BI.bigSep_univ_sum, BI.bigSep_univ_sum, BI.bigSep_univ_prod (fun p : Fin 4 × Fin 15 => Φ (.inr (.inl p))),
    BI.bigSep_univ_prod (fun p : Fin 4 × Fin 15 => Φ (.inr (.inr p))),
    bigSep_univ_eq_bigSepL [true, false] (by decide) (by decide) (fun b : Bool => Φ (.inl b))]
  rfl

theorem toks_eq (c : Dev nD) : (bigSep Finset.univ fun j : TI => (dutyTok ER (tokOf (c, j)).1 (tokOf (c, j)).2.1 (tokOf (c, j)).2.2 : sProp 𝕄)) ⊢ toks c := by
  rw [bigSep_duties]
  unfold toks
  iintro ⟨⟨H1, H2⟩, H3, H4⟩
  isplitl [H1]; · iexact H1
  isplitl [H2]; · iexact H2
  isplitl [H3]; · iexact H3
  iexact H4

/-- What the launch element deals a device, -/
def G (c : Dev nD) : sProp 𝕄 :=
  iprop((bigSep Finset.univ fun i : CI => roundState ER (ringRd m ρ) (cell c i) 0)
    ∗ (bigSep Finset.univ fun i : CI => atPos ER (cell c i) 0 ∅ 0) ∗ (bigSep Finset.univ fun i : CI => reached ER (cell c i) 0) ∗ toks c)
/-- and what the global step makes of it. -/
def G' (c : Dev nD) : sProp 𝕄 :=
  iprop((∃ K, recs m ρ K) ∗ (bigSep Finset.univ fun i : CI => atPos ER (cell c i) 0 ∅ 0) ∗ pays c)

theorem over_cells (Φ : GSem nD τ sig → sProp 𝕄) : bigSep ringCells Φ = bigSep Finset.univ fun c : Dev nD => bigSep Finset.univ fun i : CI => Φ (cell c i) := by
  unfold ringCells; rw [BI.bigSep_map, BI.bigSep_univ_prod]; rfl
theorem over_toks : bigSep ringToks (fun x => (dutyTok ER x.1 x.2.1 x.2.2 : sProp 𝕄)) ⊢ bigSep Finset.univ fun c : Dev nD => toks c := by
  unfold ringToks; rw [BI.bigSep_map, BI.bigSep_univ_prod]
  exact bigSep_mono fun c _ => toks_eq c

theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst' := (Entails.of_eq (over_cells fun g => roundState ER (ringRd m ρ) g 0)) $$ Hst
  ihave Hat' := (Entails.of_eq (over_cells fun g => atPos ER g 0 ∅ 0)) $$ Hat
  ihave Hr' := (Entails.of_eq (over_cells fun g => reached ER g 0)) $$ Hr
  ihave Htok' := (over_toks (F := F)) $$ Htok
  unfold G; simp only [bigSep_sep']
  isplitl [Hst']; · iexact Hst'
  isplitl [Hat']; · iexact Hat'
  isplitl [Hr'] <;> iassumption

/-- The kernel's own semaphores, and the barrier semaphore, are a device's cells. -/
theorem unscoped_eq (c : Dev nD) : (unscopedSems0 c : sProp 𝕄) = semVal (barCell c) 0 := by
  unfold unscopedSems0; rw [bigSep_eq_bigSepL_of_eq [SemLoc.reg barS] (by decide +kernel) (by decide)]; rfl
theorem sems_eq (c : Dev nD) : (bigSep Finset.univ fun i : CI => (semVal (cell c i) 0 : sProp 𝕄))
    = iprop(unscopedSems0 c ∗ Pipeline.ownSems0 (Ix := Unit) (Name := ℕ) (U := UU) (Lvl := ℕ) (Val := Elt F) (τ := τ) osem c) := by
  rw [unscoped_eq, bigSep_option]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (ringRd m ρ) κ (cell c i)))
          ∗ (bigSep Finset.univ fun i : CI => atPos ER (cell c i) 0 ∅ 0) ∗ (bigSep Finset.univ fun i : CI => reached ER (cell c i) 0) ∗ toks c) := by
  unfold G
  iintro ⟨Hos, Hus, Hst, Hat, Hr, Htok⟩
  ihave Hv := (Entails.of_eq (sems_eq (F := F) c).symm) $$ [Hos Hus]
  · isplitl [Hus] <;> iassumption
  imod (show iprop((bigSep Finset.univ fun i : CI => semVal (cell c i) 0) ∗ bigSep Finset.univ fun i : CI => roundState ER (ringRd m ρ) (cell c i) 0)
      ⊢ (|={Set.univ}=> bigSep Finset.univ fun i : CI => iprop(∃ κ : ℕ, cellInv ER (ringRd m ρ) κ (cell c i)) : sProp 𝕄) from by
        rw [← bigSep_sep']
        exact (bigSep_mono fun i _ => (Rounds.body_intro ER (ringRd m ρ) (cell c i)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- The two sides of the ring as permutations. -/
def leftward : Dev nD ≃ Dev nD := ⟨lt, rt, rt_lt, lt_rt⟩
def rightward : Dev nD ≃ Dev nD := ⟨rt, lt, lt_rt, rt_lt⟩

/-- A landing cell's token goes to the device the copy comes from. -/
theorem recv_around : (bigSep Finset.univ fun c : Dev nD => bigSep Finset.univ fun l => bigSep Finset.univ fun t : Fin 15 => (dutyTok ER (recvCell c l t) 0 false : sProp 𝕄))
    = bigSep Finset.univ fun c : Dev nD => bigSep Finset.univ fun l => bigSep Finset.univ fun t : Fin 15 => dutyTok ER (recvCell (nxt l c) l t) 0 false := by
  rw [bigSep_univ_comm, bigSep_univ_comm (fun (c : Dev nD) (l : Fin 4) => bigSep Finset.univ fun t : Fin 15 => (dutyTok ER (recvCell (nxt l c) l t) 0 false : sProp 𝕄))]
  exact bigSep_congr fun l _ => BI.bigSep_univ_equiv (around l) fun c : Dev nD => bigSep Finset.univ fun t : Fin 15 => dutyTok ER (recvCell c l t) 0 false

/-- The tokens dealt to the devices that pay the duties. -/
theorem toks_around : (bigSep Finset.univ fun c : Dev nD => (toks c : sProp 𝕄)) ⊢ bigSep Finset.univ fun c : Dev nD => pays c := by
  unfold toks pays duties
  simp only [bigSep_sep']
  rw [recv_around, BI.bigSep_univ_equiv leftward (fun c : Dev nD => (dutyTok ER (barCell c) 0 true : sProp 𝕄)),
    BI.bigSep_univ_equiv rightward (fun c : Dev nD => (dutyTok ER (barCell c) 0 false : sProp 𝕄))]
  iintro ⟨H1, H2, H3, H4⟩
  isplitl [H1]; · iexact H1
  isplitl [H2]; · iexact H2
  isplitl [H3]; · iexact H3
  iexact H4

/-- The records of all the cells. -/
theorem recs_intro (K : Dev nD × CI → ℕ) :
    iprop((bigSep Finset.univ fun p : Dev nD × CI => cellInv ER (ringRd m ρ) (K p) (cell p.1 p.2))
      ∗ bigSep Finset.univ fun p : Dev nD × CI => reached ER (cell p.1 p.2) 0) ⊢ recs (F := F) m ρ K := by
  unfold recs; rw [← bigSep_sep']

theorem regroup :
    (bigSep Finset.univ fun c : Dev nD => iprop((bigSep Finset.univ fun i : CI => iprop(∃ κ : ℕ, cellInv ER (ringRd m ρ) κ (cell c i)))
          ∗ (bigSep Finset.univ fun i : CI => atPos ER (cell c i) 0 ∅ 0) ∗ (bigSep Finset.univ fun i : CI => reached ER (cell c i) 0) ∗ toks c) : sProp 𝕄)
      ⊢ bigSep Finset.univ (G' m ρ) := by
  rw [bigSep_sep', bigSep_sep', bigSep_sep',
    ← BI.bigSep_univ_prod (fun p : Dev nD × CI => iprop(∃ κ : ℕ, cellInv ER (ringRd m ρ) κ (cell p.1 p.2))),
    ← BI.bigSep_univ_prod (fun p : Dev nD × CI => (reached ER (cell p.1 p.2) 0 : sProp 𝕄))]
  iintro ⟨HI, Hat, Hr, Htok⟩
  ihave HK := (BI.bigSep_exists_pi Finset.univ (fun (p : Dev nD × CI) (κ : ℕ) => (cellInv ER (ringRd m ρ) κ (cell p.1 p.2) : sProp 𝕄))) $$ HI
  icases HK with ⟨%K, HI⟩
  ihave #Hrec := (recs_intro m ρ K) $$ [HI Hr]
  · isplitl [HI] <;> iassumption
  ihave Htk := (toks_around (F := F)) $$ Htok
  iapply (bigSep_with_persistent (R := recs m ρ K) (S := Finset.univ) (Φ := fun c : Dev nD => iprop((bigSep Finset.univ fun i : CI => atPos ER (cell c i) 0 ∅ 0) ∗ pays c)) fun c _ => by
    unfold G'
    iintro ⟨#HR, Ha, Hp⟩
    isplitr; · iexists K; iexact HR
    isplitl [Ha] <;> iassumption)
  isplitr; · iexact Hrec
  simp only [bigSep_sep']
  isplitl [Hat] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cell_eq {d c : Dev nD} {i j : CI} : cell d i = cell c j ↔ d = c ∧ i = j :=
  ⟨fun h => ⟨congrArg (fun g : GSem nD τ sig => g.1.1) h, csem_inj (congrArg Prod.snd h)⟩, fun h => by rw [h.1, h.2]⟩

/-- What a list of copies owes a landing cell, and a barrier cell. -/
theorem owe_recv (d c : Dev nD) (l : Fin 4) (t : Fin 15) : ∀ ps : List (Fin 15 × Fin 4),
    owe d ps (recvCell c l t) () = if nxt l d = c then ps.count (t, l) * N else 0
  | [] => by rw [List.count_nil, Nat.zero_mul, ite_self]; rfl
  | p :: ps => by
    unfold owe
    rw [Pi.add_apply, Finsupp.add_apply, tallyAt_apply, owe_recv d c l t ps, List.count_cons]
    by_cases hp : p = (t, l)
    · subst hp
      by_cases hc : nxt l d = c
      · subst hc
        rw [if_pos rfl, if_pos ⟨rfl, rfl⟩, if_pos rfl, if_pos (beq_self_eq_true _), Nat.add_mul, Nat.one_mul]
      · have hn : ¬ (recvCell c l t = recvCell (nxt l d) l t ∧ () = ()) := fun h =>
          hc (cell_eq (i := some (.inr (l, t))) (j := some (.inr (l, t))) |>.mp h.1).1.symm
        rw [if_neg hc, if_neg hc, if_neg hn]
    · have hn : ¬ (recvCell c l t = recvCell (nxt p.2 d) p.2 p.1 ∧ () = ()) := fun h => hp (by
        have h1 := Sum.inr_injective (Option.some_injective _ (cell_eq (i := some (.inr (l, t))) (j := some (.inr (p.2, p.1))) |>.mp h.1).2)
        exact Prod.ext (Prod.mk.inj h1).2.symm (Prod.mk.inj h1).1.symm)
      have hb : ¬ ((p == (t, l)) = true) := fun h => hp (eq_of_beq h)
      rw [if_neg hn, if_neg hb, Nat.add_zero, Nat.add_zero]
theorem owe_bar (d c : Dev nD) : ∀ ps : List (Fin 15 × Fin 4), owe d ps (barCell c) () = 0
  | [] => rfl
  | p :: ps => by
    unfold owe
    rw [Pi.add_apply, Finsupp.add_apply, tallyAt_apply, owe_bar d c ps, if_neg fun h => by
      have := (cell_eq (i := none) (j := some (.inr (p.2, p.1))) |>.mp h.1).2
      cases this]

theorem count_steps : ∀ p : Fin 15 × Fin 4, steps.count p = 1 := by decide +kernel

theorem owed_recv (d c : Dev nD) (l : Fin 4) (t : Fin 15) : O₀ d (recvCell c l t) () = if d = prv l c then N else 0 := by
  have hb : ∀ e : Dev nD, ¬ (recvCell c l t = barCell e ∧ () = ()) := fun e h => by
    have := (cell_eq (i := some (.inr (l, t))) (j := none) |>.mp h.1).2
    cases this
  unfold O₀ O₁
  rw [Pi.add_apply, Finsupp.add_apply, Pi.add_apply, Finsupp.add_apply, tallyAt_apply, tallyAt_apply, if_neg (hb _), if_neg (hb _), owe_recv,
    count_steps, Nat.one_mul, Nat.add_zero]
  by_cases h : d = prv l c
  · subst h; rw [if_pos (nxt_prv l c), if_pos rfl]
  · rw [if_neg fun e => h (by rw [← e, prv_nxt]), if_neg h]

theorem owed_bar (d c : Dev nD) : O₀ d (barCell c) () = (if d = lt c then 1 else 0) + (if d = rt c then 1 else 0) := by
  unfold O₀ O₁
  rw [Pi.add_apply, Finsupp.add_apply, Pi.add_apply, Finsupp.add_apply, tallyAt_apply, tallyAt_apply, owe_bar, Nat.zero_add]
  congr 1
  · by_cases h : d = lt c
    · subst h; rw [rt_lt, if_pos ⟨rfl, rfl⟩, if_pos rfl]
    · rw [if_neg fun e => h (by rw [(cell_eq (i := none) (j := none) |>.mp e.1).1, lt_rt]), if_neg h]
  · by_cases h : d = rt c
    · subst h; rw [lt_rt, if_pos ⟨rfl, rfl⟩, if_pos rfl]
    · rw [if_neg fun e => h (by rw [(cell_eq (i := none) (j := none) |>.mp e.1).1, rt_lt]), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lt c) fun _ => 1, Finset.sum_ite_eq' Finset.univ (rt c) fun _ => 1, if_pos (Finset.mem_univ _), if_pos (Finset.mem_univ _)]
theorem launch_recv (c : Dev nD) (l : Fin 4) (t : Fin 15) :
    tallyOn (recvCell c l t) (launchCredit (Pipeline.owing O₀) 0 (recvCell c l t)) = (tallyAt (recvCell c l t) () N : CellTallies nD τ sig Unit) := by
  unfold tallyAt; refine congrArg _ (Finsupp.ext fun u => ?_); cases u
  rw [Pipeline.launchCredit_owing, Finsupp.single_eq_same, Finset.sum_congr rfl fun d _ => owed_recv d c l t,
    Finset.sum_ite_eq' Finset.univ (prv l c) fun _ => N, if_pos (Finset.mem_univ _)]

/-- A device's credit at launch: its barrier's two units and every landing cell's copy. -/
theorem creds_intro (c : Dev nD) : (Pipeline.launchCred O₀ c : sProp 𝕄) ⊢ iprop(cred (tallyAt (barCell c) () 2) ∗ creds c) := by
  have h : (Pipeline.launchCred O₀ c : sProp 𝕄)
      ⊢ bigSep Finset.univ fun i : CI => cred (tallyOn (cell c i) (launchCredit (Pipeline.owing O₀) 0 (cell c i))) := by
    unfold Pipeline.launchCred
    refine (bigSep_subset (Finset.subset_univ (Finset.univ.map ⟨csem, csem_inj⟩))).trans ?_
    rw [BI.bigSep_map]
    exact BI.Entails.refl _
  refine BIBase.Entails.trans h ?_
  rw [bigSep_cells]
  unfold creds
  iintro ⟨H1, -, H2⟩
  isplitl [H1]
  · rw [← launch_bar]; iexact H1
  · rw [bigSep_congr (s := Finset.univ) fun (l : Fin 4) _ => bigSep_congr (s := Finset.univ) fun (t : Fin 15) _ => congrArg cred (launch_recv c l t).symm]
    iexact H2

/-! ## The run -/

/-- What a device starts with besides its buffers. -/
def start (c : Dev nD) : sProp 𝕄 :=
  iprop(G' m ρ c ∗ levAts L lv ∗ cred (tallyAt (barCell c) () 2) ∗ creds c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hlev]; · iexact Hlev
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ start G' pays pre
  iintro ⟨⟨⟨Hrec, Hat, H1, H2, Hd⟩, Hlev, Hb, Hc⟩, -, Hr⟩
  ihave ⟨Hs, Hm⟩ := (scratch_cut (F := F) c) $$ Hr
  isplitl [Hrec]; · iexact Hrec
  isplitl [Hlev]; · iexact Hlev
  isplitl [Hat]; · iexact Hat
  isplitl [H1]; · iexact H1
  isplitl [H2]; · iexact H2
  isplitl [Hd]; · iexact Hd
  isplitl [Hb]; · iexact Hb
  isplitl [Hc]; · iexact Hc
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = post c from rfl]
  unfold post
  rw [sems_eq]
  iintro ⟨⟨Hu, Ho⟩, Hb⟩
  isplitl [Hu]; · iexact Hu
  isplitl [Ho]; · iexact Ho
  iapply (scratch_uncut (F := F) c); iexact Hb

theorem kind_none (c : Dev nD) (q : DmaSem sig) (h : ∀ i, csem i ≠ .dma q) : lv ((c : Thread nD τ), .dma q) () = 0 := by
  unfold lv kind
  rw [if_pos rfl, dif_neg fun ⟨i, e⟩ => h i e]
  rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (kind_none c _ (by fin_cases w <;> fin_cases s <;> decide +kernel)) _ (by
      rcases t with ⟨_ | _, ht⟩
      · exact Or.inl rfl
      · exact Or.inr rfl)

/-- An array's contents after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution on the sixteen devices ends, each
    device's arrays at the contents computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.KernelIdeal.Ring

end
-- ==== Proof.ValueIdeal.lean ====
/-
# The value of the kernel over the ideal values

At the ideal values a sum sent around the ring is kept as it is, so a device's result is the positive part of the sum, over
the sixteen devices of its ring, of each device's block of the contraction (`out_eq`); the sixteen blocks make up the whole
contraction, which is the reference's (`value_eq`).
-/
module

public import proofs.«01_k».proof.Proof.LaunchIdeal
public import proofs.«01_k».proof.Proof.Gen.ReferenceIdeal.Run
public import Idealize.ShloMosaic.Lib.Layout
public import Idealize.ShloMosaic.Lib.KernelVsHost
public import Idealize.ShloMosaic.Lib.StackMember
public import Idealize.ShloMosaic.PureOps.Ideal.Laws

@[expose] public section

set_option maxRecDepth 100000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The ring as powers of one neighbour -/

/-- The rows device `c` multiplies at step `t` of a lane are those of the device `t + 1` places before it. -/
theorem xOff_eq : ∀ (l : Fin 4) (t : Fin 15) (c : Dev nD), xOff c (offRow l t) = ![((prv l)^[t.val + 1] c).val * 256, 0] := by decide +kernel
theorem ownOff_eq : ∀ c : Dev nD, k0_off2 c = ![c.val * 256, 0] := by decide +kernel
/-- Sixteen places back is where one started, -/
theorem prv_sixteen : ∀ (l : Fin 4) (c : Dev nD), (prv l)^[16] c = c := by decide +kernel
/-- and the sixteen places are all the devices. -/
theorem prv_all : ∀ (l : Fin 4) (c : Dev nD), Function.Bijective fun s : Fin 16 => ((prv l)^[s.val] c : Fin 16) := by
  have h : ∀ (l : Fin 4) (c : Fin 16) (a b : Fin 16), ((prv l)^[a.val] c : Fin 16) = (prv l)^[b.val] c → a = b := by decide +kernel
  exact fun l c => Finite.injective_iff_bijective.mp fun a b => h l c a b

/-! ## The blocks of the operands -/

/-- Entry `r` of device `c`'s block of an axis of 4096. -/
def at16 (c : Dev nD) (r : Fin 256) : Fin 4096 := ⟨c.val * 256 + r.val, by have h1 : c.val < 16 := c.isLt; have := r.isLt; omega⟩
/-- Column `j` of a lane. -/
def atLane (l : Fin 4) (j : Fin 512) : Fin 2048 := ⟨col l + j.val, by have h1 : col l ≤ 1536 := (by decide : ∀ l, col l ≤ 1536) l; have := j.isLt; omega⟩

abbrev XC : Type := (⟨2, ![4096, 4096]⟩ : Shape).Idx → EReal
abbrev WC : Type := (⟨2, ![4096, 2048]⟩ : Shape).Idx → EReal

/-- Device `c`'s share of an entry of the product: the terms of its block of the contraction. -/
def share (X : XC) (W : WC) (R : Fin 4096) (J : Fin 2048) (c : Dev nD) : EReal :=
  ∑ k : Fin 256, X (ix2 R (at16 c k)) * W (ix2 (at16 c k) J)

/-- The shares of the sixteen devices are the whole entry. -/
theorem shares_eq (X : XC) (W : WC) (R : Fin 4096) (J : Fin 2048) :
    ∑ c : Fin 16, share X W R J c = ∑ k : Fin 4096, X (ix2 R k) * W (ix2 k J) := by
  unfold share
  rw [← Fintype.sum_prod_type' (f := fun (c : Fin 16) (k : Fin 256) => X (ix2 R (at16 c k)) * W (ix2 (at16 c k) J))]
  refine Fintype.sum_equiv (finProdFinEquiv (m := 16) (n := 256)) _ _ fun p => ?_
  have h : at16 p.1 p.2 = finProdFinEquiv (m := 16) (n := 256) p := Fin.ext (by
    show p.1.val * 256 + p.2.val = p.2.val + 256 * p.1.val
    omega)
  rw [h]

/-- A block of rows times a lane's columns, at an entry. -/
theorem gemm_apply (x : Vec Ideal S256x256 .bf16) (w : Vec Ideal S256x512 .bf16) (r : Fin 256) (j : Fin 512) :
    gemm x w (ix2 r j) = ∑ k : Fin 256, (x (ix2 r k) : EReal) * w (ix2 k j) := by
  unfold gemm
  rw [shapeCast_self, shapeCast_self, matmul_zero_eq_dotGeneral]
  exact StackMember.dotGeneral_plain_apply none x w r j

/-- Sixteen blocks side by side, and sixteen on top of one another. -/
theorem tiles_cols : Layout.Tiles ⟨2, ![4096, 256]⟩ ⟨2, ![4096, 4096]⟩ 1 16 := by decide
theorem tiles_rows : Layout.Tiles ⟨2, ![256, 2048]⟩ ⟨2, ![4096, 2048]⟩ 0 16 := by decide

section Value

variable (m : (ℓ : Loc nD τ sig) → Buf (Elt Ideal) ℓ) (ρ : Dev nD → PrngReg) (X : XC) (W : WC)
  (hX : ∀ c : Dev nD, m ((c.tc : Thread nD τ).loc main_arg0) = Layout.block ⟨2, ![4096, 256]⟩ ⟨2, ![4096, 4096]⟩ 1 16 c X tiles_cols)
  (hW : ∀ c : Dev nD, m ((c.tc : Thread nD τ).loc main_arg1) = Layout.block ⟨2, ![256, 2048]⟩ ⟨2, ![4096, 2048]⟩ 0 16 c W tiles_rows)

/-- The operands are staged whole. -/
theorem xstg_eq (c : Dev nD) : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem wstg_eq (c : Dev nD) : wstg m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

include hX in
theorem x_at (c : Dev nD) (i : S4096x256.Idx) (R : Fin 4096) (k : Fin 256) (h0 : (i 0).val = R.val) (h1 : (i 1).val = k.val) :
    (xstg m ρ c i : EReal) = X (ix2 R (at16 c k)) := by
  rw [xstg_eq, hX]
  refine congrArg X (funext fun a => Fin.ext ?_)
  match a with
  | 0 => exact h0
  | 1 => exact congrArg (c.val * 256 + ·) h1

include hW in
theorem w_at (c : Dev nD) (l : Fin 4) (k : Fin 256) (j : Fin 512) : (laneW m ρ c l (ix2 k j) : EReal) = W (ix2 (at16 c k) (atLane l j)) := by
  show (wstg m ρ c ((colRect l).emb (ix2 k j)) : EReal) = _
  rw [wstg_eq, hW]
  refine congrArg W (funext fun a => Fin.ext ?_)
  match a with
  | 0 => exact congrArg (c.val * 256 + ·) (outIx_row l (ix2 k j))
  | 1 => exact outIx_col l (ix2 k j)

include hX in
theorem stepX_at (c : Dev nD) (l : Fin 4) (t : Fin 15) (r k : Fin 256) :
    (stepX m ρ c l t (ix2 r k) : EReal) = X (ix2 (at16 ((prv l)^[t.val + 1] c) r) (at16 c k)) := by
  refine x_at m ρ X hX c ((stepRect c l t).emb (ix2 r k)) _ k ?_ ?_
  · exact (ValueKit.rect_emb_unit_val _ _ _ _ _).trans (congrArg (· + r.val) (congrFun (xOff_eq l t c) (0 : Fin 2)))
  · exact (ValueKit.rect_emb_unit_val _ _ _ _ _).trans ((congrArg (· + k.val) (congrFun (xOff_eq l t c) (1 : Fin 2))).trans (Nat.zero_add _))
include hX in
theorem ownX_at (c : Dev nD) (r k : Fin 256) : (ownX m ρ c (ix2 r k) : EReal) = X (ix2 (at16 c r) (at16 c k)) := by
  refine x_at m ρ X hX c ((ownRect c).emb (ix2 r k)) _ k ?_ ?_
  · exact (ValueKit.rect_emb_unit_val _ _ _ _ _).trans (congrArg (· + r.val) (congrFun (ownOff_eq c) (0 : Fin 2)))
  · exact (ValueKit.rect_emb_unit_val _ _ _ _ _).trans ((congrArg (· + k.val) (congrFun (ownOff_eq c) (1 : Fin 2))).trans (Nat.zero_add _))

include hX hW in
/-- The product of a step is a share of the entries of the rows it works for. -/
theorem step_share (c : Dev nD) (l : Fin 4) (t : Fin 15) (r : Fin 256) (j : Fin 512) :
    gemm (stepX m ρ c l t) (laneW m ρ c l) (ix2 r j) = share X W (at16 ((prv l)^[t.val + 1] c) r) (atLane l j) c := by
  rw [gemm_apply]
  exact Finset.sum_congr rfl fun k _ => by rw [stepX_at m ρ X hX, w_at m ρ W hW]

include hX hW in
/-- A lane's sum at step `t`: the shares of the device and of the `t` before it. -/
theorem sum_eq (l : Fin 4) (r : Fin 256) (j : Fin 512) : ∀ (t : ℕ) (h : t < 15) (c : Dev nD),
    sum m ρ l t h c (ix2 r j) = ∑ s ∈ Finset.range (t + 1), share X W (at16 ((prv l)^[t + 1] c) r) (atLane l j) ((prv l)^[s] c)
  | 0, h, c => by
    rw [Finset.sum_range_one]
    exact step_share m ρ X W hX hW c l ⟨0, h⟩ r j
  | t + 1, h, c => by
    show gemm (stepX m ρ c l ⟨t + 1, h⟩) (laneW m ρ c l) (ix2 r j) + sum m ρ l t (Nat.lt_of_succ_lt h) (prv l c) (ix2 r j) = _
    rw [step_share m ρ X W hX hW, sum_eq l r j t (Nat.lt_of_succ_lt h) (prv l c), Finset.sum_range_succ' _ (t + 1), add_comm]
    rfl

include hX hW in
/-- A lane's last sum: the positive part of the whole entry. -/
theorem last_eq (l : Fin 4) (c : Dev nD) (r : Fin 256) (j : Fin 512) :
    (last m ρ l c (ix2 r j) : EReal) = max (∑ k : Fin 4096, X (ix2 (at16 c r) k) * W (ix2 k (atLane l j))) 0 := by
  have h1 : gemm (ownX m ρ c) (laneW m ρ c l) (ix2 r j) = share X W (at16 c r) (atLane l j) c := by
    rw [gemm_apply]
    exact Finset.sum_congr rfl fun k _ => by rw [ownX_at m ρ X hX, w_at m ρ W hW]
  have h2 : (prv l)^[14 + 1] (prv l c) = c := prv_sixteen l c
  have h3 : gemm (ownX m ρ c) (laneW m ρ c l) (ix2 r j) + sum m ρ l 14 (by decide) (prv l c) (ix2 r j)
      = ∑ k : Fin 4096, X (ix2 (at16 c r) k) * W (ix2 k (atLane l j)) := by
    rw [h1, sum_eq m ρ X W hX hW, h2, ← shares_eq, ← (prv_all l c).sum_comp, Fin.sum_univ_eq_sum_range fun s => share X W (at16 c r) (atLane l j) ((prv l)^[s] c),
      Finset.sum_range_succ' _ 15, add_comm]
    rfl
  show max (gemm (ownX m ρ c) (laneW m ρ c l) (ix2 r j) + sum m ρ l 14 (by decide) (prv l c) (ix2 r j)) (Ideal.ofBits .f32 0x00000000#32) = _
  rw [h3, Ideal.ofBits_zero_f32]

/-- The reference's result. -/
def refOut : WC := fun i => max (∑ k : Fin 4096, X (ix2 (i 0) k) * W (ix2 k (i 1))) 0

include hX hW in
/-- A device's result is its block of the reference's. -/
theorem out_eq (c : Dev nD) : outAt m ρ c = Layout.block ⟨2, ![256, 2048]⟩ ⟨2, ![4096, 2048]⟩ 0 16 c (refOut X W) tiles_rows := by
  funext i
  obtain ⟨l, x, rfl⟩ := outIx_cover i
  obtain ⟨r, j, rfl⟩ : ∃ (r : Fin 256) (j : Fin 512), x = ix2 r j := ⟨x 0, x 1, eq_ix2 x⟩
  unfold outAt
  rw [wr_lane, last_eq m ρ X W hX hW]
  have h : ∀ (i : (⟨2, ![4096, 2048]⟩ : Shape).Idx), (i 0).val = c.val * 256 + r.val → (i 1).val = col l + j.val →
      max (∑ k : Fin 4096, X (ix2 (at16 c r) k) * W (ix2 k (atLane l j))) 0 = refOut X W i := fun i h0 h1 => by
    unfold refOut
    rw [show i 0 = at16 c r from Fin.ext h0, show i 1 = atLane l j from Fin.ext h1]
  exact h _ (congrArg (c.val * 256 + ·) (outIx_row l (ix2 r j))) (outIx_col l (ix2 r j))

/-- The result array after the run holds the device's result. -/
theorem finalA_out (c : Dev nD) : finalA m ρ c (2 : Fin 3) = outAt m ρ c := by
  have hz : (fun a => (win0_2.index (0 : Fin 1)) a * main_v1.ty.shape.size a) = fun _ => 0 :=
    funext fun a => by fin_cases a <;> decide
  have hr := Memref.read_access_unit_zero (Elt Ideal) main_v1 hz (fun a => by fin_cases a <;> decide) (finalA m ρ c (2 : Fin 3))
  have ho : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact hr.symm.trans ho

end Value

/-- The reference's operations compute that result. -/
theorem ref_eq (X : XC) (W : WC) :
    (maximumf (extf .f32 (truncf .bf16 (Host.dotGeneral (F := Idealize.ShloMosaic.Ideal) (φ₁ := .bf16) (φ₂ := .bf16) Cert.ReferenceIdeal.dot_S4096x4096_S4096x2048_S4096x2048_1_0_0_1_n_n none
        (X : FVec Ideal Cert.ReferenceIdeal.S4096x4096 .bf16) (W : FVec Ideal Cert.ReferenceIdeal.S4096x2048 .bf16)
        : FVec Ideal Cert.ReferenceIdeal.S4096x2048 .f32) Cert.ReferenceIdeal.Facts₀.bitsLt_bf16_f32) Cert.ReferenceIdeal.Facts₀.bitsLt_bf16_f32)
      (broadcastInDim Cert.ReferenceIdeal.S4096x2048 ![] Cert.ReferenceIdeal.Facts₀.bcast_S_S4096x2048 (constant Cert.ReferenceIdeal.S_ .f32 0x00000000#32))
        : FVec Ideal Cert.ReferenceIdeal.S4096x2048 .f32) = refOut X W := by
  funext i
  obtain ⟨R, J, rfl⟩ : ∃ (R : Fin 4096) (J : Fin 2048), i = ix2 R J := ⟨i 0, i 1, eq_ix2 i⟩
  have h := StackMember.dotGeneral_plain_apply (m := 4096) (n := 2048) (φ₁ := .bf16) (φ₂ := .bf16) none (X : FVec Ideal ⟨2, ![4096, 4096]⟩ .bf16) (W : FVec Ideal ⟨2, ![4096, 2048]⟩ .bf16) R J
  show max (Host.dotGeneral (F := Idealize.ShloMosaic.Ideal) (φ₁ := .bf16) (φ₂ := .bf16) (DotDims.plain 4096 4096 2048) none (X : FVec Ideal ⟨2, ![4096, 4096]⟩ .bf16) (W : FVec Ideal ⟨2, ![4096, 2048]⟩ .bf16) (ix2 R J))
    (Ideal.ofBits .f32 0x00000000#32) = max (∑ k : Fin 4096, X (ix2 R k) * W (ix2 k J)) 0
  rw [h, Ideal.ofBits_zero_f32]

end Cert.KernelIdeal.Ring

end
-- ==== Proof.lean ====
/-
# The certificate's claims

Both programs of the kernel run, leave their operands as they were and every semaphore counter at zero; so does the
reference; and at the ideal values each device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchKernel
public import proofs.«01_k».proof.Proof.ValueIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs to the end, its operands unchanged and its counters at zero. -/
theorem kernel_quiescent : quiescent_Kernel (hKernel := Cert.Kernel.Gen.facts) := fun m g _ =>
  (θ_run _ _ _).mono (fun _ h => ⟨fun c => ⟨(h.1 c (0 : Fin 3)).trans (Cert.Kernel.Ring.finalA_x m g c),
    (h.1 c (1 : Fin 3)).trans (Cert.Kernel.Ring.finalA_w m g c)⟩, h.2⟩) (Cert.Kernel.Ring.run_main m g)

/-- So does the kernel at the ideal values. -/
theorem ideal_quiescent : quiescent_KernelIdeal (hKernelIdeal := Cert.KernelIdeal.Gen.facts) := fun m g _ =>
  (θ_run _ _ _).mono (fun _ h => ⟨fun c => ⟨(h.1 c (0 : Fin 3)).trans (Cert.KernelIdeal.Ring.finalA_x m g c),
    (h.1 c (1 : Fin 3)).trans (Cert.KernelIdeal.Ring.finalA_w m g c)⟩, h.2⟩) (Cert.KernelIdeal.Ring.run_main m g)

/-- So does the reference, which has no semaphore. -/
theorem reference_quiescent : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- From operands that are the devices' blocks of the reference's, each device's result is its block of the reference's. -/
theorem result_algebraic : algebraic_KernelIdeal_ReferenceIdeal (hKernelIdeal := Cert.KernelIdeal.Gen.facts)
    (hReferenceIdeal := Cert.ReferenceIdeal.Gen.facts) := fun m g m' g' _ hb =>
  ⟨_, (θ_run _ _ _).mono (fun _ h c => ⟨((h.1 c (2 : Fin 3)).trans (Cert.KernelIdeal.Ring.finalA_out m g c)).trans
        (Cert.KernelIdeal.Ring.out_eq m g _ _ (fun c => (hb c).1) (fun c => (hb c).2) c),
      (h.1 c (0 : Fin 3)).trans (Cert.KernelIdeal.Ring.finalA_x m g c),
      (h.1 c (1 : Fin 3)).trans (Cert.KernelIdeal.Ring.finalA_w m g c)⟩) (Cert.KernelIdeal.Ring.run_main m g),
    (θ_run _ _ _).mono (fun _ h => ⟨(h 0).1.trans (Cert.KernelIdeal.Ring.ref_eq _ _), (h 0).2⟩) (Cert.ReferenceIdeal.Value.run m' g')⟩

theorem claim : Cert.Claim := ⟨Cert.Kernel.Gen.facts, Cert.KernelIdeal.Gen.facts, Cert.ReferenceIdeal.Gen.facts,
  kernel_quiescent, ideal_quiescent, reference_quiescent, trivial, result_algebraic⟩

end Cert.Proof

end
